-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x1x8192 : Shape := ⟨3, ![5, 1, 8192]⟩
abbrev S1024x8x1280 : Shape := ⟨3, ![1024, 8, 1280]⟩
abbrev S8x256x8 : Shape := ⟨3, ![8, 256, 8]⟩
abbrev S1280 : Shape := ⟨1, ![1280]⟩
abbrev S2x4x2x128x4x2 : Shape := ⟨6, ![2, 4, 2, 128, 4, 2]⟩
abbrev S4x4x2x2x128x2 : Shape := ⟨6, ![4, 4, 2, 2, 128, 2]⟩
abbrev S4x4x2x2x128 : Shape := ⟨5, ![4, 4, 2, 2, 128]⟩
abbrev S1x4x1x4x1x2x1x2x1x128 : Shape := ⟨10, ![1, 4, 1, 4, 1, 2, 1, 2, 1, 128]⟩
abbrev S1x4x1x4x1x2x4x2x1x128 : Shape := ⟨10, ![1, 4, 1, 4, 1, 2, 4, 2, 1, 128]⟩
abbrev S4x4x2x8x128 : Shape := ⟨5, ![4, 4, 2, 8, 128]⟩
abbrev S5x1024x4x2 : Shape := ⟨4, ![5, 1024, 4, 2]⟩
abbrev S4x5x1024x2 : Shape := ⟨4, ![4, 5, 1024, 2]⟩
abbrev S4x5x1024x1x2 : Shape := ⟨5, ![4, 5, 1024, 1, 2]⟩
abbrev S4x5x1024x2x2 : Shape := ⟨5, ![4, 5, 1024, 2, 2]⟩
abbrev S4x5x4096 : Shape := ⟨3, ![4, 5, 4096]⟩
abbrev S_ : Shape := ⟨0, ![]⟩
abbrev S4x8x4096 : Shape := ⟨3, ![4, 8, 4096]⟩
abbrev S1x1280 : Shape := ⟨2, ![1, 1280]⟩
abbrev S8x1280 : Shape := ⟨2, ![8, 1280]⟩
abbrev S4x8x256 : Shape := ⟨3, ![4, 8, 256]⟩
abbrev S64x8x128 : Shape := ⟨3, ![64, 8, 128]⟩
abbrev S1x256 : Shape := ⟨2, ![1, 256]⟩
abbrev S8x256 : Shape := ⟨2, ![8, 256]⟩
abbrev S4x4x2x128x128 : Shape := ⟨5, ![4, 4, 2, 128, 128]⟩
abbrev S64x2x128 : Shape := ⟨3, ![64, 2, 128]⟩
abbrev S128x128 : Shape := ⟨2, ![128, 128]⟩
abbrev S8x128 : Shape := ⟨2, ![8, 128]⟩
abbrev S1x1x1x8x128 : Shape := ⟨5, ![1, 1, 1, 8, 128]⟩
abbrev S8x128x1 : Shape := ⟨3, ![8, 128, 1]⟩
abbrev S1x1x1x128x128 : Shape := ⟨5, ![1, 1, 1, 128, 128]⟩
abbrev S256x128 : Shape := ⟨2, ![256, 128]⟩
abbrev S256x256 : Shape := ⟨2, ![256, 256]⟩
abbrev S1x8x256 : Shape := ⟨3, ![1, 8, 256]⟩

abbrev nBuf : Space → Nat
  | .hbm => 20
  | .vmem => 13
  | .smem => 0
  | _ => 0

abbrev bufTy : (tb : Table) → Fin (tcTables nBuf tb) → BufTy
  | .hbm, ⟨0, _⟩ => ⟨S5x1x8192, .bf16⟩
  | .hbm, ⟨1, _⟩ => ⟨S1024x8x1280, .i8⟩
  | .hbm, ⟨2, _⟩ => ⟨S8x256x8, .i16⟩
  | .hbm, ⟨3, _⟩ => ⟨S1280, .f32⟩
  | .hbm, ⟨4, _⟩ => ⟨S2x4x2x128x4x2, .i16⟩
  | .hbm, ⟨5, _⟩ => ⟨S4x4x2x2x128x2, .i16⟩
  | .hbm, ⟨6, _⟩ => ⟨S4x4x2x2x128, .i32⟩
  | .hbm, ⟨7, _⟩ => ⟨S1x4x1x4x1x2x1x2x1x128, .i32⟩
  | .hbm, ⟨8, _⟩ => ⟨S1x4x1x4x1x2x4x2x1x128, .i32⟩
  | .hbm, ⟨9, _⟩ => ⟨S4x4x2x8x128, .i32⟩
  | .hbm, ⟨10, _⟩ => ⟨S5x1024x4x2, .bf16⟩
  | .hbm, ⟨11, _⟩ => ⟨S4x5x1024x2, .bf16⟩
  | .hbm, ⟨12, _⟩ => ⟨S4x5x1024x1x2, .bf16⟩
  | .hbm, ⟨13, _⟩ => ⟨S4x5x1024x2x2, .bf16⟩
  | .hbm, ⟨14, _⟩ => ⟨S4x5x4096, .bf16⟩
  | .hbm, ⟨15, _⟩ => ⟨S_, .i32⟩
  | .hbm, ⟨16, _⟩ => ⟨S_, .bf16⟩
  | .hbm, ⟨17, _⟩ => ⟨S4x8x4096, .bf16⟩
  | .hbm, ⟨18, _⟩ => ⟨S1x1280, .f32⟩
  | .hbm, ⟨19, _⟩ => ⟨S8x1280, .bf16⟩
  | .local _ .vmem, ⟨0, _⟩ => ⟨S4x8x256, .bf16⟩
  | .local _ .vmem, ⟨1, _⟩ => ⟨S4x8x256, .bf16⟩
  | .local _ .vmem, ⟨2, _⟩ => ⟨S64x8x128, .i8⟩
  | .local _ .vmem, ⟨3, _⟩ => ⟨S64x8x128, .i8⟩
  | .local _ .vmem, ⟨4, _⟩ => ⟨S64x8x128, .i8⟩
  | .local _ .vmem, ⟨5, _⟩ => ⟨S64x8x128, .i8⟩
  | .local _ .vmem, ⟨6, _⟩ => ⟨S4x4x2x8x128, .i32⟩
  | .local _ .vmem, ⟨7, _⟩ => ⟨S1x256, .f32⟩
  | .local _ .vmem, ⟨8, _⟩ => ⟨S1x256, .f32⟩
  | .local _ .vmem, ⟨9, _⟩ => ⟨S8x256, .bf16⟩
  | .local _ .vmem, ⟨10, _⟩ => ⟨S8x256, .bf16⟩
  | .local _ .vmem, ⟨11, _⟩ => ⟨S4x4x2x128x128, .i32⟩
  | .local _ .vmem, ⟨12, _⟩ => ⟨S8x256, .f32⟩
  | _, _ => ⟨S5x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![5, 16], ![false, false]⟩

def k0_cond2 (i : grid0.Coords) : BitVec 1 :=
  let arg1 : BitVec 32 := BitVec.ofNat 32 (i 1).val
  let c15_i32 : BitVec 32 := 15#32
  let v8413 : BitVec 1 := Scalar.cmpi .eq arg1 c15_i32
  let v8414 : BitVec 32 := Scalar.extui v8413
  let c0_i32_8403 : BitVec 32 := 0#32
  let v8415 : BitVec 1 := Scalar.cmpi .ne v8414 c0_i32_8403
  v8415

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![arg1.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![arg1.toNat, c0_i32.toNat, v1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x8x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x8x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x8x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x4x2x8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S5x1x8192 : Shape := ⟨3, ![5, 1, 8192]⟩
abbrev S1024x8x1280 : Shape := ⟨3, ![1024, 8, 1280]⟩
abbrev S8x256x8 : Shape := ⟨3, ![8, 256, 8]⟩
abbrev S1280 : Shape := ⟨1, ![1280]⟩
abbrev S5x1024x8 : Shape := ⟨3, ![5, 1024, 8]⟩
abbrev S_ : Shape := ⟨0, ![]⟩
abbrev S8x1024x8 : Shape := ⟨3, ![8, 1024, 8]⟩
abbrev S8 : Shape := ⟨1, ![8]⟩
abbrev S1x8x1 : Shape := ⟨3, ![1, 8, 1]⟩
abbrev S2048x8 : Shape := ⟨2, ![2048, 8]⟩
abbrev S1024x8x1280x1 : Shape := ⟨4, ![1024, 8, 1280, 1]⟩
abbrev S1024x8x1280x8 : Shape := ⟨4, ![1024, 8, 1280, 8]⟩
abbrev S8x1024x1x8 : Shape := ⟨4, ![8, 1024, 1, 8]⟩
abbrev S8x1024x8x8 : Shape := ⟨4, ![8, 1024, 8, 8]⟩
abbrev S8x1280 : Shape := ⟨2, ![8, 1280]⟩
abbrev S1x1280 : Shape := ⟨2, ![1, 1280]⟩

abbrev nBuf : Space → Nat
  | .hbm => 27
  | .vmem => 0
  | .smem => 0
  | _ => 0

abbrev bufTy : (tb : Table) → Fin (tcTables nBuf tb) → BufTy
  | .hbm, ⟨0, _⟩ => ⟨S5x1x8192, .bf16⟩
  | .hbm, ⟨1, _⟩ => ⟨S1024x8x1280, .i8⟩
  | .hbm, ⟨2, _⟩ => ⟨S8x256x8, .i16⟩
  | .hbm, ⟨3, _⟩ => ⟨S1280, .f32⟩
  | .hbm, ⟨4, _⟩ => ⟨S5x1024x8, .bf16⟩
  | .hbm, ⟨5, _⟩ => ⟨S_, .i32⟩
  | .hbm, ⟨6, _⟩ => ⟨S_, .bf16⟩
  | .hbm, ⟨7, _⟩ => ⟨S8x1024x8, .bf16⟩
  | .hbm, ⟨8, _⟩ => ⟨S8, .i32⟩
  | .hbm, ⟨9, _⟩ => ⟨S1x8x1, .i32⟩
  | .hbm, ⟨10, _⟩ => ⟨S_, .i32⟩
  | .hbm, ⟨11, _⟩ => ⟨S1x8x1, .i32⟩
  | .hbm, ⟨12, _⟩ => ⟨S1x8x1, .i32⟩
  | .hbm, ⟨13, _⟩ => ⟨S1024x8x1280, .i32⟩
  | .hbm, ⟨14, _⟩ => ⟨S1024x8x1280, .i32⟩
  | .hbm, ⟨15, _⟩ => ⟨S1024x8x1280, .i32⟩
  | .hbm, ⟨16, _⟩ => ⟨S8x256x8, .bf16⟩
  | .hbm, ⟨17, _⟩ => ⟨S2048x8, .bf16⟩
  | .hbm, ⟨18, _⟩ => ⟨S1024x8x1280x1, .i32⟩
  | .hbm, ⟨19, _⟩ => ⟨S1024x8x1280x8, .bf16⟩
  | .hbm, ⟨20, _⟩ => ⟨S8x1024x1x8, .bf16⟩
  | .hbm, ⟨21, _⟩ => ⟨S8x1024x8x8, .bf16⟩
  | .hbm, ⟨22, _⟩ => ⟨S8x1280, .f32⟩
  | .hbm, ⟨23, _⟩ => ⟨S1x1280, .f32⟩
  | .hbm, ⟨24, _⟩ => ⟨S8x1280, .f32⟩
  | .hbm, ⟨25, _⟩ => ⟨S8x1280, .f32⟩
  | .hbm, ⟨26, _⟩ => ⟨S8x1280, .bf16⟩
  | _, _ => ⟨S5x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Byte.lean ====
/-
  The code word: four code bytes packed in a 32-bit word, and what the kernel computes of one of them. `byte b` is bits
  8b … 8b + 7. Shifted right by 8b and masked with 127 the word is the byte's low seven bits; shifted left by 24 - 8b it is
  negative exactly when the byte is 128 or more.
-/
module

public import Idealize.ShloMosaic.Lib.BitcastFour

@[expose] public section

namespace Cert.Codes

open Idealize.ShloMosaic

/-- `c` is byte `b` of the word `w`. -/
def IsByte (w : BitVec 32) (b : Nat) (c : BitVec 8) : Prop := ∀ q, q < 8 → w.getLsbD (8 * b + q) = c.getLsbD q

/-- The word shifted right to byte `b` and masked with 127: the byte modulo 128. -/
theorem low_of_isByte {w : BitVec 32} {b : Nat} {c : BitVec 8} (hb : b < 4) (h : IsByte w b c) :
    (IntOp.andi (IntOp.shrsi .vector w (BitVec.ofNat 32 (8 * b))) 127#32).toNat = c.toNat % 128 := by
  have hn : (BitVec.ofNat 32 (8 * b)).toNat = 8 * b := by rw [BitVec.toNat_ofNat]; omega
  have e : IntOp.andi (IntOp.shrsi .vector w (BitVec.ofNat 32 (8 * b))) 127#32 = (c &&& 127#8).setWidth 32 := by
    unfold IntOp.andi IntOp.shrsi
    rw [hn, if_pos (by omega)]
    apply BitVec.eq_of_getLsbD_eq
    intro i hi
    have m32 : (127#32 : BitVec 32).getLsbD i = decide (i < 7) := by interval_cases i <;> rfl
    rw [BitVec.getLsbD_and, m32, BitVec.getLsbD_setWidth, BitVec.getLsbD_and]
    by_cases h7 : i < 7
    · have m8 : (127#8 : BitVec 8).getLsbD i = true := by interval_cases i <;> rfl
      rw [m8, BitVec.sshiftRight', BitVec.getLsbD_sshiftRight, hn, if_pos (by omega), h i (by omega)]
      simp [h7, show i < 32 by omega]
    · have m8 : (127#8 : BitVec 8).getLsbD i = false := by
        by_cases h8 : i < 8
        · have : i = 7 := by omega
          subst this; rfl
        · exact BitVec.getLsbD_of_ge _ _ (by omega)
      simp [h7, m8]
  rw [e, BitVec.toNat_setWidth, BitVec.toNat_and, show (127#8 : BitVec 8).toNat = 2 ^ 7 - 1 from rfl, Nat.and_two_pow_sub_one_eq_mod]
  have := c.isLt
  omega

/-- The word shifted left until byte `b` is its top byte: negative exactly when the byte is at least 128. -/
theorem high_of_isByte {w : BitVec 32} {b : Nat} {c : BitVec 8} (hb : b < 4) (h : IsByte w b c) :
    IntOp.cmpi .slt (IntOp.shli .vector w (BitVec.ofNat 32 (24 - 8 * b))) 0#32 = BitVec.ofBool (decide (128 ≤ c.toNat)) := by
  have hn : (BitVec.ofNat 32 (24 - 8 * b)).toNat = 24 - 8 * b := by rw [BitVec.toNat_ofNat]; omega
  unfold IntOp.cmpi IntOp.shli
  rw [hn, if_pos (by omega)]
  congr 1
  show BitVec.slt (w <<< BitVec.ofNat 32 (24 - 8 * b)) 0#32 = _
  rw [BitVec.slt_zero_eq_msb, BitVec.msb_eq_getLsbD_last, BitVec.shiftLeft_eq', hn, BitVec.getLsbD_shiftLeft]
  have e : 32 - 1 - (24 - 8 * b) = 8 * b + 7 := by omega
  rw [e, h 7 (by omega)]
  have hc : c.getLsbD 7 = decide (128 ≤ c.toNat) := by
    have := BitVec.msb_eq_decide c
    rw [BitVec.msb_eq_getLsbD_last] at this
    simpa using this
  rw [hc]
  simp [show ¬ 31 < 24 - 8 * b by omega]

end Cert.Codes
-- ==== Proof.Decode.lean ====
/-
  What the kernel body decodes. A block of codes is viewed as 32-bit words, four code bytes to a word (`words`); a stored
  [8, 128] tile (`tile`) looks each byte up, in the table's half its top bit names, at the lane its low seven bits name.
  `tile_apply` says so at one index, with the byte a variable; `word` is the table word of one decoded entry.
-/
module

public import proofs.«01_k».proof.Proof.Gen.KernelIdeal
public import proofs.«01_k».proof.Proof.Byte
public import Idealize.ShloMosaic.Lib.Pipeline.Value
public import Idealize.ShloMosaic.Lib.ValueIdx

@[expose] public section

namespace Cert.KernelIdeal.Codes

open Cert.KernelIdeal Cert.KernelIdeal.Gen Cert.Codes Idealize.ShloMosaic Idealize.ShloMosaic.ValueIdx

/-- A block of codes as words: row 2g + q of the words holds codebooks 4q … 4q + 3 of group g, the first lowest. -/
noncomputable def words (x : IVec S64x8x128 8) : IVec S128x128 32 :=
  shapeCast S128x128 (bitcast S64x2x128 32 x bitcasts_S64x8x128_w8_S64x2x128_w32) shapeCasts_S64x2x128_S128x128

/-- The code of row `R`, byte `b`, lane `l`. -/
def code (x : IVec S64x8x128 8) (b : Fin 4) (R l : Fin 128) : BitVec 8 :=
  x (ix3 (⟨R.val / 2, by omega⟩ : Fin 64) (⟨4 * (R.val % 2) + b.val, by omega⟩ : Fin 8) l)

/-- Byte `b` of the word at row `R`, lane `l` is that code. -/
theorem words_isByte (x : IVec S64x8x128 8) (b : Fin 4) (R l : Fin 128) :
    IsByte (words x (ix2 R l)) b.val (code x b R l) := by
  intro q hq
  unfold words code
  rw [shapeCast_apply _ _ (ix2 R l) (ix3 (⟨R.val / 2, by omega⟩ : Fin 64) (⟨R.val % 2, by omega⟩ : Fin 2) l) (by
    rw [Shape.rowMajor_val_three, Shape.rowMajor_val_two]
    show (R.val / 2 * 2 + R.val % 2) * 128 + l.val = R.val * 128 + l.val
    omega)]
  rw [bitcast_8_32_getLsbD x _ _ _ (by have := b.isLt; omega)]
  have e1 : (8 * b.val + q) % 8 = q := by omega
  have e2 : (8 * b.val + q) / 8 = b.val := by omega
  rw [e1]
  congr 2
  funext a
  match a with
  | ⟨0, _⟩ => exact Fin.ext (Shape.Bitcasts.srcIdx_other _ _ _ _ ⟨0, by decide⟩ (by decide))
  | ⟨1, _⟩ =>
    refine Fin.ext ((Shape.Bitcasts.srcIdx_row _ _ _ _ ⟨1, by decide⟩ rfl).trans ?_)
    show 4 * (R.val % 2) + (8 * b.val + q) / 8 = 4 * (R.val % 2) + b.val
    rw [e2]
  | ⟨2, _⟩ => exact Fin.ext (Shape.Bitcasts.srcIdx_other _ _ _ _ ⟨2, by decide⟩ (by decide))

/-- One stored tile: `pk` the packed code words of eight rows, `r` and `s` the byte's shift amounts right and left, `lo` and
    `hi` the table's two halves. -/
noncomputable def tile (pk : IVec S8x128 32) (r s : BitVec 32) (lo hi : IVec S1x1x1x8x128 32) : IVec S1x1x1x8x128 32 :=
  shapeCast S1x1x1x8x128
    (select (cmpi .slt (shli pk (broadcast S8x128 s)) (broadcast S8x128 0#32))
      (dynamicGather 1 (shapeCast S8x128 hi shapeCasts_S1x1x1x8x128_S8x128)
        (shapeCast S8x128 (shapeCast S8x128x1 (andi (shrsi pk (broadcast S8x128 r)) (broadcast S8x128 127#32)) shapeCasts_S8x128_S8x128x1)
          shapeCasts_S8x128x1_S8x128))
      (dynamicGather 1 (shapeCast S8x128 lo shapeCasts_S1x1x1x8x128_S8x128)
        (shapeCast S8x128 (shapeCast S8x128x1 (andi (shrsi pk (broadcast S8x128 r)) (broadcast S8x128 127#32)) shapeCasts_S8x128_S8x128x1)
          shapeCasts_S8x128x1_S8x128)))
    shapeCasts_S8x128_S1x1x1x8x128

/-- A tile of rank 5 with three unit axes, read row by row. -/
theorem rowMajor_unit5 (e : Fin 8) (l : Fin 128) :
    (S1x1x1x8x128.rowMajor (ix5 0 0 0 e l)).val = (S8x128.rowMajor (ix2 e l)).val := by
  rw [Shape.rowMajor_val_five, Shape.rowMajor_val_two]
  show ((((0 : Nat) * 1 + 0) * 1 + 0) * 8 + e.val) * 128 + l.val = e.val * 128 + l.val
  omega

/-- A table half read as [8, 128], gathered along its lanes. -/
theorem gather_apply (v : IVec S1x1x1x8x128 32) (idx : IVec S8x128 32) (e : Fin 8) (l : Fin 128) :
    dynamicGather 1 (shapeCast S8x128 v shapeCasts_S1x1x1x8x128_S8x128) idx (ix2 e l)
      = v (ix5 0 0 0 e (⟨(idx (ix2 e l)).toNat % 128, Nat.mod_lt _ (by decide)⟩ : Fin 128)) := by
  unfold dynamicGather
  have ej : (fun b : Fin S8x128.rank => if b = 1 then (⟨(idx (ix2 e l)).toNat % S8x128.size b, Nat.mod_lt _ (Fin.pos (ix2 e l b))⟩ : Fin (S8x128.size b)) else ix2 e l b)
      = ix2 e (⟨(idx (ix2 e l)).toNat % 128, Nat.mod_lt _ (by decide)⟩ : Fin 128) := by
    funext a
    match a with
    | ⟨0, _⟩ => rfl
    | ⟨1, _⟩ => rfl
  rw [ej]
  exact shapeCast_apply _ _ _ _ (rowMajor_unit5 e _)

/-- THE TILE AT AN INDEX: where byte `b` of the packed word is `c`, the tile holds lane `c % 128` of the half `c / 128`. -/
theorem tile_apply (pk : IVec S8x128 32) (b : Fin 4) (lo hi : IVec S1x1x1x8x128 32) (e : Fin 8) (l : Fin 128) (c : BitVec 8)
    (hc : IsByte (pk (ix2 e l)) b.val c) :
    tile pk (BitVec.ofNat 32 (8 * b.val)) (BitVec.ofNat 32 (24 - 8 * b.val)) lo hi (ix5 0 0 0 e l)
      = if 128 ≤ c.toNat then hi (ix5 0 0 0 e (⟨c.toNat % 128, Nat.mod_lt _ (by decide)⟩ : Fin 128))
        else lo (ix5 0 0 0 e (⟨c.toNat % 128, Nat.mod_lt _ (by decide)⟩ : Fin 128)) := by
  unfold tile
  rw [shapeCast_apply _ _ (ix5 0 0 0 e l) (ix2 e l) (rowMajor_unit5 e l).symm]
  have hl := low_of_isByte b.isLt hc
  have hh := high_of_isByte b.isLt hc
  have ei : ∀ h h', (shapeCast S8x128 (shapeCast S8x128x1 (andi (shrsi pk (broadcast S8x128 (BitVec.ofNat 32 (8 * b.val)))) (broadcast S8x128 127#32)) h) h')
      = andi (shrsi pk (broadcast S8x128 (BitVec.ofNat 32 (8 * b.val)))) (broadcast S8x128 127#32) := fun h h' => shapeCast_shapeCast _ _ _
  have ev : (andi (shrsi pk (broadcast S8x128 (BitVec.ofNat 32 (8 * b.val)))) (broadcast S8x128 127#32) (ix2 e l)).toNat = c.toNat % 128 := hl
  have ec : cmpi .slt (shli pk (broadcast S8x128 (BitVec.ofNat 32 (24 - 8 * b.val)))) (broadcast S8x128 0#32) (ix2 e l)
      = BitVec.ofBool (decide (128 ≤ c.toNat)) := hh
  have e128 : c.toNat % 128 % 128 = c.toNat % 128 := Nat.mod_mod _ _
  rw [ei]
  unfold select Scalar.select
  rw [ec, gather_apply, gather_apply]
  simp only [ev, e128]
  by_cases h : 128 ≤ c.toNat
  · simp [h]
  · simp [h]

/-- The table word of code `c`, in the table's row `r`: its half the code's top bit, its lane the code's low seven bits. -/
def entry (tab : IVec S4x4x2x8x128 32) (b w : Fin 4) (r : Fin 8) (c : BitVec 8) : BitVec 32 :=
  tab (ix5 b w (⟨c.toNat / 128, by have := c.isLt; omega⟩ : Fin 2) r (⟨c.toNat % 128, Nat.mod_lt _ (by decide)⟩ : Fin 128))

/-- The table word of the entry at row `R`, byte `b`, lane `l`, word `w` of the codebook entry. -/
def word (x : IVec S64x8x128 8) (tab : IVec S4x4x2x8x128 32) (b w : Fin 4) (R l : Fin 128) : BitVec 32 :=
  entry tab b w (⟨R.val % 8, by omega⟩ : Fin 8) (code x b R l)

/-- The decoded scratch: both lane tiles' words, for every byte and word. -/
def decoded (x1 x2 : IVec S64x8x128 8) (tab : IVec S4x4x2x8x128 32) : IVec S4x4x2x128x128 32 := fun i =>
  word (if (i 2).val = 0 then x1 else x2) tab (i 0) (i 1) (i 3) (i 4)

end Cert.KernelIdeal.Codes
-- ==== Proof.Pieces.lean ====
/-
  The decode stage's stores, listed. The body stores 512 tiles into its scratch, one per lane tile, row quad, byte and word;
  `pieces` lists them last first, from the two blocks of codes and the table's halves as the body loads them. They are all
  restrictions of one function, `decoded`, and they cover the scratch (`canon_pieces`), so a load of any part of the scratch
  reads `decoded` there (`plane_pieces`).
-/
module

public import proofs.«01_k».proof.Proof.Decode

@[expose] public section

set_option maxRecDepth 16384

namespace Cert.KernelIdeal.Codes

open Cert.KernelIdeal Cert.KernelIdeal.Gen Cert.Codes Idealize.ShloMosaic Idealize.ShloMosaic.ValueIdx

/-- The lists `f (n - 1)`, …, `f 0`, joined in that order. -/
def desc {α : Type} : (n : Nat) → (Fin n → List α) → List α
  | 0, _ => []
  | n + 1, f => f (Fin.last n) ++ desc n fun i => f i.castSucc

/-- What a descending list holds. -/
theorem mem_desc {α : Type} {a : α} : ∀ {n : Nat} {f : Fin n → List α}, a ∈ desc n f ↔ ∃ i, a ∈ f i
  | 0, f => by simp [desc]
  | n + 1, f => by
    rw [desc, List.mem_append, mem_desc]
    exact ⟨fun h => h.elim (fun h => ⟨_, h⟩) fun ⟨i, h⟩ => ⟨_, h⟩, fun ⟨i, h⟩ => i.lastCases Or.inl (fun j h => Or.inr ⟨j, h⟩) h⟩

variable {F : FTy → Type} [FloatOps F]

/-- A tile lies in the scratch. -/
theorem inb_tile (b w : Fin 4) (n : Fin 2) (q : Fin 16) :
    ∀ a, (![b.val, w.val, n.val, 8 * q.val, 0] : Fin 5 → Nat) a + S1x1x1x8x128.size a ≤ S4x4x2x128x128.size a := by
  intro a
  match a with
  | ⟨0, _⟩ => show b.val + 1 ≤ 4; omega
  | ⟨1, _⟩ => show w.val + 1 ≤ 4; omega
  | ⟨2, _⟩ => show n.val + 1 ≤ 2; omega
  | ⟨3, _⟩ => show 8 * q.val + 8 ≤ 128; omega
  | ⟨4, _⟩ => show 0 + 128 ≤ 128; omega

/-- A quad of rows lies in the words. -/
theorem slices_quad (q : Fin 16) : S128x128.Slices ![8 * q.val, 0] S8x128 := by
  revert q; decide

/-- The store of lane tile `n`, quad `q`, byte `b`, word `w`: `x` the lane tile's block of codes, `tl` the table halves. -/
noncomputable def piece (n : Fin 2) (x : IVec S64x8x128 8) (tl : Fin 4 → Fin 4 → Fin 2 → IVec S1x1x1x8x128 32)
    (q : Fin 16) (b w : Fin 4) : View.Piece (Elt F) S4x4x2x128x128 .i32 :=
  ⟨Rect.unit ![b.val, w.val, n.val, 8 * q.val, 0] S1x1x1x8x128.size (inb_tile b w n q),
    tile (extractStridedSlice S8x128 ![8 * q.val, 0] (words x) (slices_quad q)) (BitVec.ofNat 32 (8 * b.val))
      (BitVec.ofNat 32 (24 - 8 * b.val)) (tl b w 0) (tl b w 1)⟩

/-- One lane tile's stores, last first. -/
noncomputable def tilePieces (n : Fin 2) (x : IVec S64x8x128 8) (tl : Fin 4 → Fin 4 → Fin 2 → IVec S1x1x1x8x128 32) :
    List (View.Piece (Elt F) S4x4x2x128x128 .i32) :=
  desc 16 fun q => desc 4 fun b => desc 4 fun w => [piece n x tl q b w]

/-- All the stores, last first. -/
noncomputable def pieces (x1 x2 : IVec S64x8x128 8) (tl : Fin 4 → Fin 4 → Fin 2 → IVec S1x1x1x8x128 32) :
    List (View.Piece (Elt F) S4x4x2x128x128 .i32) :=
  tilePieces 1 x2 tl ++ tilePieces 0 x1 tl

/-- What one lane tile's pieces are. -/
theorem mem_tilePieces {n : Fin 2} {x : IVec S64x8x128 8} {tl : Fin 4 → Fin 4 → Fin 2 → IVec S1x1x1x8x128 32}
    {p : View.Piece (Elt F) S4x4x2x128x128 .i32} : p ∈ tilePieces n x tl ↔ ∃ q b w, p = piece n x tl q b w := by
  simp only [tilePieces, mem_desc, List.mem_singleton]

/-- What the pieces are. -/
theorem mem_pieces {x1 x2 : IVec S64x8x128 8} {tl : Fin 4 → Fin 4 → Fin 2 → IVec S1x1x1x8x128 32}
    {p : View.Piece (Elt F) S4x4x2x128x128 .i32} :
    p ∈ pieces x1 x2 tl ↔ ∃ n q b w, p = piece n (if (n : Fin 2).val = 0 then x1 else x2) tl q b w := by
  rw [pieces, List.mem_append, mem_tilePieces, mem_tilePieces, Fin.exists_fin_two, or_comm]
  rfl

/-- Where the piece's store puts the element at row `e`, lane `l` of its tile. -/
theorem piece_emb (n : Fin 2) (x : IVec S64x8x128 8) (tl : Fin 4 → Fin 4 → Fin 2 → IVec S1x1x1x8x128 32) (q : Fin 16) (b w : Fin 4)
    (e : Fin 8) (l : Fin 128) :
    (piece (F := F) n x tl q b w).1.emb (ix5 0 0 0 e l) = ix5 b w n (⟨8 * q.val + e.val, by omega⟩ : Fin 128) l := by
  funext a
  match a with
  | ⟨0, _⟩ => exact Fin.ext (show b.val + 1 * 0 = b.val by omega)
  | ⟨1, _⟩ => exact Fin.ext (show w.val + 1 * 0 = w.val by omega)
  | ⟨2, _⟩ => exact Fin.ext (show n.val + 1 * 0 = n.val by omega)
  | ⟨3, _⟩ => exact Fin.ext (show 8 * q.val + 1 * e.val = 8 * q.val + e.val by omega)
  | ⟨4, _⟩ => exact Fin.ext (show 0 + 1 * l.val = l.val by omega)

/-- An index of a tile of rank 5. -/
theorem eq_unit5 (y : S1x1x1x8x128.Idx) : ∃ (e : Fin 8) (l : Fin 128), y = ix5 0 0 0 e l := by
  refine ⟨y 3, y 4, ?_⟩
  have h0 : y 0 = (0 : Fin 1) := Subsingleton.elim (α := Fin 1) _ _
  have h1 : y 1 = (0 : Fin 1) := Subsingleton.elim (α := Fin 1) _ _
  have h2 : y 2 = (0 : Fin 1) := Subsingleton.elim (α := Fin 1) _ _
  funext a
  match a with
  | ⟨0, _⟩ => exact h0
  | ⟨1, _⟩ => exact h1
  | ⟨2, _⟩ => exact h2
  | ⟨3, _⟩ => rfl
  | ⟨4, _⟩ => rfl

variable (tab : IVec S4x4x2x8x128 32) {tl : Fin 4 → Fin 4 → Fin 2 → IVec S1x1x1x8x128 32}

/-- The piece's payload is `decoded` where the piece stores it. -/
theorem piece_payload (htl : ∀ b w h e l, tl b w h (ix5 0 0 0 e l) = tab (ix5 b w h e l)) (x1 x2 : IVec S64x8x128 8)
    (n : Fin 2) (q : Fin 16) (b w : Fin 4) (e : Fin 8) (l : Fin 128) :
    (piece (F := F) n (if n.val = 0 then x1 else x2) tl q b w).2 (ix5 0 0 0 e l)
      = decoded x1 x2 tab (ix5 b w n (⟨8 * q.val + e.val, by omega⟩ : Fin 128) l) := by
  show tile _ _ _ _ _ (ix5 0 0 0 e l) = word (if n.val = 0 then x1 else x2) tab b w (⟨8 * q.val + e.val, by omega⟩ : Fin 128) l
  generalize (if n.val = 0 then x1 else x2) = x
  have hx : extractStridedSlice S8x128 ![8 * q.val, 0] (words x) (slices_quad q) (ix2 e l)
      = words x (ix2 (⟨8 * q.val + e.val, by omega⟩ : Fin 128) l) := by
    unfold extractStridedSlice
    congr 1
    funext a
    match a with
    | ⟨0, _⟩ => rfl
    | ⟨1, _⟩ => exact Fin.ext (show 0 + l.val = l.val by omega)
  rw [tile_apply _ b _ _ e l (code x b (⟨8 * q.val + e.val, by omega⟩ : Fin 128) l) (by rw [hx]; exact words_isByte x b _ l)]
  have er : (⟨(8 * q.val + e.val) % 8, by omega⟩ : Fin 8) = e := Fin.ext (by show (8 * q.val + e.val) % 8 = e.val; omega)
  show _ = entry tab b w (⟨(8 * q.val + e.val) % 8, by omega⟩ : Fin 8) (code x b (⟨8 * q.val + e.val, by omega⟩ : Fin 128) l)
  rw [er]
  generalize code x b (⟨8 * q.val + e.val, by omega⟩ : Fin 128) l = c
  have hc := c.isLt
  unfold entry
  by_cases h : 128 ≤ c.toNat
  · rw [if_pos h, htl, show (⟨c.toNat / 128, by omega⟩ : Fin 2) = 1 from Fin.ext (by show c.toNat / 128 = 1; omega)]
  · rw [if_neg h, htl, show (⟨c.toNat / 128, by omega⟩ : Fin 2) = 0 from Fin.ext (by show c.toNat / 128 = 0; omega)]

/-- What the stores leave in the scratch. -/
theorem canon_pieces (htl : ∀ b w h e l, tl b w h (ix5 0 0 0 e l) = tab (ix5 b w h e l)) (x1 x2 : IVec S64x8x128 8)
    (i : S4x4x2x128x128.Idx) : View.canon (pieces (F := F) x1 x2 tl) i = decoded x1 x2 tab i := by
  refine View.canon_apply_of_pieces (Val := Elt F) (e := .i32) (decoded x1 x2 tab) _ ?_ i ?_
  · intro p hp y
    obtain ⟨n, q, b, w, rfl⟩ := mem_pieces.1 hp
    obtain ⟨e, l, rfl⟩ := eq_unit5 y
    rw [piece_emb]
    exact piece_payload tab htl x1 x2 n q b w e l
  · obtain ⟨b, w, n, R, l, rfl⟩ : ∃ b w n R l, i = ix5 b w n R l := ⟨_, _, _, _, _, eq_ix5 i⟩
    refine ⟨_, mem_pieces.2 ⟨n, (⟨R.val / 8, by omega⟩ : Fin 16), b, w, rfl⟩, ?_⟩
    show _ ∈ (Rect.unit (s := S4x4x2x128x128) ![b.val, w.val, n.val, 8 * (R.val / 8), 0] S1x1x1x8x128.size (inb_tile b w n ⟨R.val / 8, by omega⟩)).set
    rw [Rect.mem_set_unit]
    intro a
    match a with
    | ⟨0, _⟩ => exact ⟨Nat.le_refl _, Nat.lt_succ_self b.val⟩
    | ⟨1, _⟩ => exact ⟨Nat.le_refl _, Nat.lt_succ_self w.val⟩
    | ⟨2, _⟩ => exact ⟨Nat.le_refl _, Nat.lt_succ_self n.val⟩
    | ⟨3, _⟩ => show 8 * (R.val / 8) ≤ R.val ∧ R.val < 8 * (R.val / 8) + 8; omega
    | ⟨4, _⟩ => show 0 ≤ l.val ∧ l.val < 0 + 128; omega

/-- A plane lies in the scratch. -/
theorem inb_plane (b w : Fin 4) (n : Fin 2) :
    ∀ a, (![b.val, w.val, n.val, 0, 0] : Fin 5 → Nat) a + S1x1x1x128x128.size a ≤ S4x4x2x128x128.size a := by
  intro a
  match a with
  | ⟨0, _⟩ => show b.val + 1 ≤ 4; omega
  | ⟨1, _⟩ => show w.val + 1 ≤ 4; omega
  | ⟨2, _⟩ => show n.val + 1 ≤ 2; omega
  | ⟨3, _⟩ => show 0 + 128 ≤ 128; omega
  | ⟨4, _⟩ => show 0 + 128 ≤ 128; omega

/-- The load of one byte's, word's and lane tile's plane of the scratch, after the stores `L`. -/
noncomputable def plane (v : View sig .tc .vmem S4x4x2x128x128 .i32) (L : List (View.Piece (Elt F) S4x4x2x128x128 .i32)) (b w : Fin 4)
    (n : Fin 2) : IVec S1x1x1x128x128 32 :=
  v.readCov L (Rect.unit (s := S4x4x2x128x128) ![b.val, w.val, n.val, 0, 0] S1x1x1x128x128.size (inb_plane b w n)).toLoadRect

/-- A plane loaded from the scratch, at an index. -/
theorem plane_pieces (v : View sig .tc .vmem S4x4x2x128x128 .i32)
    (htl : ∀ b w h e l, tl b w h (ix5 0 0 0 e l) = tab (ix5 b w h e l)) (x1 x2 : IVec S64x8x128 8) (b w : Fin 4) (n : Fin 2)
    (R l : Fin 128) :
    plane v (pieces (F := F) x1 x2 tl) b w n (ix5 0 0 0 R l) = word (if n.val = 0 then x1 else x2) tab b w R l := by
  unfold plane
  rw [View.readCov_eq_canon']
  have e : (Rect.unit (s := S4x4x2x128x128) ![b.val, w.val, n.val, 0, 0] S1x1x1x128x128.size (inb_plane b w n)).toLoadRect.idx (ix5 0 0 0 R l)
      = ix5 b w n R l := by
    funext a
    match a with
    | ⟨0, _⟩ => exact Fin.ext (show b.val + 1 * 0 = b.val by omega)
    | ⟨1, _⟩ => exact Fin.ext (show w.val + 1 * 0 = w.val by omega)
    | ⟨2, _⟩ => exact Fin.ext (show n.val + 1 * 0 = n.val by omega)
    | ⟨3, _⟩ => exact Fin.ext (show 0 + 1 * R.val = R.val by omega)
    | ⟨4, _⟩ => exact Fin.ext (show 0 + 1 * l.val = l.val by omega)
  show View.canon _ _ = _
  refine (congrArg _ e).trans ?_
  exact canon_pieces tab htl x1 x2 _

end Cert.KernelIdeal.Codes
-- ==== Proof.Step.lean ====
/-
  What one grid point adds. The body multiplies, for every word and byte, the activations' block by the decoded plane read as
  bfloat16 (two rows to a word), and adds the sixteen products to the accumulator in turn (`accum`).
-/
module

public import proofs.«01_k».proof.Proof.Pieces

@[expose] public section

namespace Cert.KernelIdeal.Codes

open Cert.KernelIdeal Cert.KernelIdeal.Gen Cert.Codes Idealize.ShloMosaic Idealize.ShloMosaic.ValueIdx

variable {F : FTy → Type} [FloatOps F]

/-- A plane of words read as bfloat16 rows, the low half of each word above the high half. -/
noncomputable def halves (s : IVec S1x1x1x128x128 32) : FVec F S256x128 .bf16 :=
  bitcastToFloat .bf16 (bitcast S256x128 16 (shapeCast S128x128 s shapeCasts_S1x1x1x128x128_S128x128) bitcasts_S128x128_w32_S256x128_w16)

/-- One product: one word's activations against the two lane tiles' planes side by side. -/
noncomputable def product (xw : Vec F S1x8x256 .bf16) (s0 s1 : IVec S1x1x1x128x128 32) : FVec F S8x256 .f32 :=
  matmul dot_S8x256_S256x256_S8x256_1_0_0_1_n_n none (shapeCast S8x256 xw shapeCasts_S1x8x256_S8x256)
    (concatenate S256x256 1 [⟨S256x128, halves s0⟩, ⟨S256x128, halves s1⟩] concatenates_S256x128_S256x128_S256x256_d1)
    (constant S8x256 .f32 0x00000000#32)

/-- `f (n - 1)` of … of `f 0` of `a`. -/
def asc {α : Type} : (n : Nat) → (Fin n → α → α) → α → α
  | 0, _, a => a
  | n + 1, f, a => f (Fin.last n) (asc n (fun i => f i.castSucc) a)

/-- The accumulator after the sixteen products, words outermost. -/
noncomputable def accum (acc : FVec F S8x256 .f32) (xl : Fin 4 → Vec F S1x8x256 .bf16) (sl : Fin 4 → Fin 4 → Fin 2 → IVec S1x1x1x128x128 32) :
    FVec F S8x256 .f32 :=
  asc 4 (fun w => asc 4 fun b a => addf a (product (xl w) (sl b w 0) (sl b w 1))) acc

/-- A word's activations lie in their block. -/
theorem inb_xrow (w : Fin 4) : ∀ a, (![w.val, 0, 0] : Fin 3 → Nat) a + S1x8x256.size a ≤ S4x8x256.size a := by
  intro a
  match a with
  | ⟨0, _⟩ => show w.val + 1 ≤ 4; omega
  | ⟨1, _⟩ => show 0 + 8 ≤ 8; omega
  | ⟨2, _⟩ => show 0 + 256 ≤ 256; omega

/-- The load of one word's activations. -/
noncomputable def xload (arg2 : Memref sig .tc .vmem S4x8x256 .bf16) (harg2 : arg2.IsWhole) (x0 : Vec F S4x8x256 .bf16) (w : Fin 4) :
    Vec F S1x8x256 .bf16 :=
  View.readAt (Elt F) arg2.view (Rect.unit (s := S4x8x256) ![w.val, 0, 0] S1x8x256.size (inb_xrow w)).toLoadRect (harg2.unread x0)

/-- A half of the table lies in it. -/
theorem inb_half (b w : Fin 4) (h : Fin 2) :
    ∀ a, (![b.val, w.val, h.val, 0, 0] : Fin 5 → Nat) a + S1x1x1x8x128.size a ≤ S4x4x2x8x128.size a := by
  intro a
  match a with
  | ⟨0, _⟩ => show b.val + 1 ≤ 4; omega
  | ⟨1, _⟩ => show w.val + 1 ≤ 4; omega
  | ⟨2, _⟩ => show h.val + 1 ≤ 2; omega
  | ⟨3, _⟩ => show 0 + 8 ≤ 8; omega
  | ⟨4, _⟩ => show 0 + 128 ≤ 128; omega

/-- The load of one half of the table. -/
noncomputable def tload (arg5 : Memref sig .tc .vmem S4x4x2x8x128 .i32) (harg5 : arg5.IsWhole) (x3 : Vec F S4x4x2x8x128 .i32)
    (b w : Fin 4) (h : Fin 2) : IVec S1x1x1x8x128 32 :=
  View.readAt (Elt F) arg5.view (Rect.unit (s := S4x4x2x8x128) ![b.val, w.val, h.val, 0, 0] S1x1x1x8x128.size (inb_half b w h)).toLoadRect
    (harg5.unread x3)

/-- The load of a block of codes. -/
noncomputable def cload (arg3 : Memref sig .tc .vmem S64x8x128 .i8) (harg3 : arg3.IsWhole) (x1 : Vec F S64x8x128 .i8) : IVec S64x8x128 8 :=
  View.readAt (Elt F) arg3.view (Rect.unit (s := S64x8x128) ![0, 0, 0] S64x8x128.size inb_S64x8x128_S64x8x128_0_0_0).toLoadRect (harg3.unread x1)

/-- The accumulator the body stores, from the accumulator it found and its blocks as it loads them. -/
noncomputable def stepped (arg2 : Memref sig .tc .vmem S4x8x256 .bf16) (harg2 : arg2.IsWhole) (arg3 : Memref sig .tc .vmem S64x8x128 .i8)
    (harg3 : arg3.IsWhole) (arg4 : Memref sig .tc .vmem S64x8x128 .i8) (harg4 : arg4.IsWhole) (arg5 : Memref sig .tc .vmem S4x4x2x8x128 .i32)
    (harg5 : arg5.IsWhole) (arg8 : Memref sig .tc .vmem S4x4x2x128x128 .i32)
    (x0 : Vec F S4x8x256 .bf16) (x1 : Vec F S64x8x128 .i8) (x2 : Vec F S64x8x128 .i8) (x3 : Vec F S4x4x2x8x128 .i32)
    (acc : FVec F S8x256 .f32) : FVec F S8x256 .f32 :=
  shapeCast S8x256
    (accum acc (xload arg2 harg2 x0)
      (plane arg8.view (pieces (F := F) (cload arg3 harg3 x1) (cload arg4 harg4 x2) (tload arg5 harg5 x3))))
    shapeCasts_S8x256_S8x256

end Cert.KernelIdeal.Codes
-- ==== Proof.RunA.lean ====
/-
  Case A, the first step of an output block: the body writes zero into the accumulator, reads it back and adds its step.
-/
module

public import proofs.«01_k».proof.Proof.Step
public import proofs.«01_k».proof.Proof.Gen.KernelIdeal.Frame.RunA

@[expose] public section

set_option maxRecDepth 16384

namespace Cert.KernelIdeal.Codes

open Cert.KernelIdeal Cert.KernelIdeal.Gen Cert.Codes Idealize.ShloMosaic Idealize.ShloMosaic.ValueIdx

variable {F : FTy → Type} [FloatOps F]

set_option maxHeartbeats 4000000 in
/-- What case A leaves in the accumulator: the zero, and over it the step added into that zero read back. -/
theorem pieces_A (c : Dev nD) (i : grid0.Coords) (arg2 : Memref sig .tc .vmem S4x8x256 .bf16) (harg2 : arg2.IsWhole) (arg3 : Memref sig .tc .vmem S64x8x128 .i8) (harg3 : arg3.IsWhole) (arg4 : Memref sig .tc .vmem S64x8x128 .i8) (harg4 : arg4.IsWhole) (arg5 : Memref sig .tc .vmem S4x4x2x8x128 .i32) (harg5 : arg5.IsWhole) (arg6 : Memref sig .tc .vmem S1x256 .f32) (harg6 : arg6.IsWhole) (arg7 : Memref sig .tc .vmem S8x256 .bf16) (harg7 : arg7.IsWhole) (arg8 : Memref sig .tc .vmem S4x4x2x128x128 .i32) (harg8 : arg8.IsWhole) (arg9 : Memref sig .tc .vmem S8x256 .f32) (harg9 : arg9.IsWhole) (hc0 : cond0_0 i) (hc1 : ¬cond0_1 i)
    (x0 : Vec F S4x8x256 .bf16) (x1 : Vec F S64x8x128 .i8) (x2 : Vec F S64x8x128 .i8) (x3 : Vec F S4x4x2x8x128 .i32) (x4 : Vec F S1x256 .f32) :
    (kernelRun0_A c i arg2 harg2 arg3 harg3 arg4 harg4 arg5 harg5 arg6 harg6 arg7 harg7 arg8 harg8 arg9 harg9 hc0 hc1 x0 x1 x2 x3 x4).2.1
      = [⟨Rect.unit ![0, 0] S8x256.size inb_S8x256_S8x256_0_0,
          stepped (F := F) arg2 harg2 arg3 harg3 arg4 harg4 arg5 harg5 arg8 x0 x1 x2 x3
            (arg9.view.readCov (Val := Elt F) [⟨Rect.unit ![0, 0] S8x256.size inb_S8x256_S8x256_0_0, k0_pay3⟩] (Rect.unit ![0, 0] S8x256.size inb_S8x256_S8x256_0_0).toLoadRect)⟩,
        ⟨Rect.unit ![0, 0] S8x256.size inb_S8x256_S8x256_0_0, k0_pay3⟩] := by
  sl_kernel_rfl

end Cert.KernelIdeal.Codes
-- ==== Proof.RunB.lean ====
/-
  Case B, a middle step: the body adds its step into the accumulator found there.
-/
module

public import proofs.«01_k».proof.Proof.Step
public import proofs.«01_k».proof.Proof.Gen.KernelIdeal.Frame.RunB

@[expose] public section

set_option maxRecDepth 16384

namespace Cert.KernelIdeal.Codes

open Cert.KernelIdeal Cert.KernelIdeal.Gen Cert.Codes Idealize.ShloMosaic Idealize.ShloMosaic.ValueIdx

variable {F : FTy → Type} [FloatOps F]

set_option maxHeartbeats 4000000 in
/-- What case B leaves in the accumulator: one piece, the step added into the array found there. -/
theorem pieces_B (c : Dev nD) (i : grid0.Coords) (arg2 : Memref sig .tc .vmem S4x8x256 .bf16) (harg2 : arg2.IsWhole) (arg3 : Memref sig .tc .vmem S64x8x128 .i8) (harg3 : arg3.IsWhole) (arg4 : Memref sig .tc .vmem S64x8x128 .i8) (harg4 : arg4.IsWhole) (arg5 : Memref sig .tc .vmem S4x4x2x8x128 .i32) (harg5 : arg5.IsWhole) (arg6 : Memref sig .tc .vmem S1x256 .f32) (harg6 : arg6.IsWhole) (arg7 : Memref sig .tc .vmem S8x256 .bf16) (harg7 : arg7.IsWhole) (arg8 : Memref sig .tc .vmem S4x4x2x128x128 .i32) (harg8 : arg8.IsWhole) (arg9 : Memref sig .tc .vmem S8x256 .f32) (harg9 : arg9.IsWhole) (hc0 : ¬cond0_0 i) (hc1 : ¬cond0_1 i)
    (x0 : Vec F S4x8x256 .bf16) (x1 : Vec F S64x8x128 .i8) (x2 : Vec F S64x8x128 .i8) (x3 : Vec F S4x4x2x8x128 .i32) (x4 : Vec F S1x256 .f32) (xs1 : Vec F S8x256 .f32) :
    (kernelRun0_B c i arg2 harg2 arg3 harg3 arg4 harg4 arg5 harg5 arg6 harg6 arg7 harg7 arg8 harg8 arg9 harg9 hc0 hc1 x0 x1 x2 x3 x4 xs1).2.1
      = [⟨Rect.unit ![0, 0] S8x256.size inb_S8x256_S8x256_0_0,
          stepped (F := F) arg2 harg2 arg3 harg3 arg4 harg4 arg5 harg5 arg8 x0 x1 x2 x3
            (View.readAt (Elt F) arg9.view (Rect.unit ![0, 0] S8x256.size inb_S8x256_S8x256_0_0).toLoadRect (harg9.unread xs1))⟩] := by
  sl_kernel_rfl

end Cert.KernelIdeal.Codes
-- ==== Proof.RunC.lean ====
/-
  Case C, the last step of an output block: the body adds its step into the accumulator and then writes the block of results,
  the accumulator it has just stored times the block's scales.
-/
module

public import proofs.«01_k».proof.Proof.Step
public import proofs.«01_k».proof.Proof.Gen.KernelIdeal.Frame.RunC

@[expose] public section

set_option maxRecDepth 16384

namespace Cert.KernelIdeal.Codes

open Cert.KernelIdeal Cert.KernelIdeal.Gen Cert.Codes Idealize.ShloMosaic Idealize.ShloMosaic.ValueIdx

variable {F : FTy → Type} [FloatOps F]

set_option maxHeartbeats 4000000 in
/-- What case C leaves in the accumulator: one piece, the step added into the array found there. -/
theorem pieces_C (c : Dev nD) (i : grid0.Coords) (arg2 : Memref sig .tc .vmem S4x8x256 .bf16) (harg2 : arg2.IsWhole) (arg3 : Memref sig .tc .vmem S64x8x128 .i8) (harg3 : arg3.IsWhole) (arg4 : Memref sig .tc .vmem S64x8x128 .i8) (harg4 : arg4.IsWhole) (arg5 : Memref sig .tc .vmem S4x4x2x8x128 .i32) (harg5 : arg5.IsWhole) (arg6 : Memref sig .tc .vmem S1x256 .f32) (harg6 : arg6.IsWhole) (arg7 : Memref sig .tc .vmem S8x256 .bf16) (harg7 : arg7.IsWhole) (arg8 : Memref sig .tc .vmem S4x4x2x128x128 .i32) (harg8 : arg8.IsWhole) (arg9 : Memref sig .tc .vmem S8x256 .f32) (harg9 : arg9.IsWhole) (hc0 : ¬cond0_0 i) (hc1 : cond0_1 i)
    (x0 : Vec F S4x8x256 .bf16) (x1 : Vec F S64x8x128 .i8) (x2 : Vec F S64x8x128 .i8) (x3 : Vec F S4x4x2x8x128 .i32) (x4 : Vec F S1x256 .f32) (xs1 : Vec F S8x256 .f32) :
    (kernelRun0_C c i arg2 harg2 arg3 harg3 arg4 harg4 arg5 harg5 arg6 harg6 arg7 harg7 arg8 harg8 arg9 harg9 hc0 hc1 x0 x1 x2 x3 x4 xs1).2.1
      = [⟨Rect.unit ![0, 0] S8x256.size inb_S8x256_S8x256_0_0,
          stepped (F := F) arg2 harg2 arg3 harg3 arg4 harg4 arg5 harg5 arg8 x0 x1 x2 x3
            (View.readAt (Elt F) arg9.view (Rect.unit ![0, 0] S8x256.size inb_S8x256_S8x256_0_0).toLoadRect (harg9.unread xs1))⟩] := by
  sl_kernel_rfl

set_option maxHeartbeats 4000000 in
/-- What case C writes to the results: one piece, the accumulator read back and scaled. -/
theorem result_C (c : Dev nD) (i : grid0.Coords) (arg2 : Memref sig .tc .vmem S4x8x256 .bf16) (harg2 : arg2.IsWhole) (arg3 : Memref sig .tc .vmem S64x8x128 .i8) (harg3 : arg3.IsWhole) (arg4 : Memref sig .tc .vmem S64x8x128 .i8) (harg4 : arg4.IsWhole) (arg5 : Memref sig .tc .vmem S4x4x2x8x128 .i32) (harg5 : arg5.IsWhole) (arg6 : Memref sig .tc .vmem S1x256 .f32) (harg6 : arg6.IsWhole) (arg7 : Memref sig .tc .vmem S8x256 .bf16) (harg7 : arg7.IsWhole) (arg8 : Memref sig .tc .vmem S4x4x2x128x128 .i32) (harg8 : arg8.IsWhole) (arg9 : Memref sig .tc .vmem S8x256 .f32) (harg9 : arg9.IsWhole) (hc0 : ¬cond0_0 i) (hc1 : cond0_1 i)
    (x0 : Vec F S4x8x256 .bf16) (x1 : Vec F S64x8x128 .i8) (x2 : Vec F S64x8x128 .i8) (x3 : Vec F S4x4x2x8x128 .i32) (x4 : Vec F S1x256 .f32) (xs1 : Vec F S8x256 .f32) :
    (kernelRun0_C c i arg2 harg2 arg3 harg3 arg4 harg4 arg5 harg5 arg6 harg6 arg7 harg7 arg8 harg8 arg9 harg9 hc0 hc1 x0 x1 x2 x3 x4 xs1).1
      = [⟨Rect.unit ![0, 0] S8x256.size inb_S8x256_S8x256_0_0,
          k0_pay2 (arg9.view.readCov (Val := Elt F)
              [⟨Rect.unit ![0, 0] S8x256.size inb_S8x256_S8x256_0_0,
                stepped (F := F) arg2 harg2 arg3 harg3 arg4 harg4 arg5 harg5 arg8 x0 x1 x2 x3
                  (View.readAt (Elt F) arg9.view (Rect.unit ![0, 0] S8x256.size inb_S8x256_S8x256_0_0).toLoadRect (harg9.unread xs1))⟩]
              (Rect.unit ![0, 0] S8x256.size inb_S8x256_S8x256_0_0).toLoadRect)
            (View.readAt (Elt F) arg6.view (Rect.unit ![0, 0] S1x256.size inb_S1x256_S1x256_0_0).toLoadRect (harg6.unread x4))⟩] := by
  sl_kernel_rfl

end Cert.KernelIdeal.Codes
-- ==== Proof.Product.lean ====
/-
  The step's value on the extended reals. The plane read as bfloat16 holds, at row K, the number of half K % 2 of the word at
  row K / 2 (`halves_apply`); a product is a sum over K (`product_apply`); so the stored accumulator is the one found plus one
  triple sum over words, bytes and rows (`stepped_apply`).
-/
module

public import proofs.«01_k».proof.Proof.Step
public import Idealize.ShloMosaic.Lib.BitcastPair
public import Idealize.ShloMosaic.Lib.MatmulPlain

@[expose] public section

namespace Cert.KernelIdeal.Codes

open Cert.KernelIdeal Cert.KernelIdeal.Gen Cert.Codes Idealize.ShloMosaic Idealize.ShloMosaic.ValueIdx
open scoped BigOperators

/-- Half `p` of a word, the low half first. -/
def half (w : BitVec 32) (p : Nat) : BitVec 16 := w.extractLsb' (16 * p) 16

/-- The number half `p` of a word is the bfloat16 of. -/
noncomputable def halfVal (w : BitVec 32) (p : Nat) : EReal := FloatOps.ofBits (F := Ideal) .bf16 (half w p)

/-- The plane read as bfloat16, at row `K`. -/
theorem halves_apply (s : IVec S1x1x1x128x128 32) (K : Fin 256) (l : Fin 128) :
    halves (F := Ideal) s (ix2 K l) = halfVal (s (ix5 0 0 0 (⟨K.val / 2, by omega⟩ : Fin 128) l)) (K.val % 2) := by
  show FloatOps.ofBits (F := Ideal) .bf16 (bitcast S256x128 16 _ _ (ix2 K l)) = _
  rw [bitcast_32_16]
  have er : S256x128.row (ix2 K l) = K.val := rfl
  have e : (bitcasts_S128x128_w32_S256x128_w16.srcIdx (ix2 K l) (S256x128.row (ix2 K l) / 2) fun a ha => by
      have := bitcasts_S128x128_w32_S256x128_w16.pos_lt (ix2 K l) 0 (by decide) a ha; omega) = ix2 (⟨K.val / 2, by omega⟩ : Fin 128) l := by
    funext a
    match a with
    | ⟨0, _⟩ => exact Fin.ext (Shape.Bitcasts.srcIdx_row _ _ _ _ ⟨0, by decide⟩ rfl)
    | ⟨1, _⟩ => exact Fin.ext (Shape.Bitcasts.srcIdx_other _ _ _ _ ⟨1, by decide⟩ (by decide))
  rw [e, shapeCast_apply _ _ _ (ix5 0 0 0 (⟨K.val / 2, by omega⟩ : Fin 128) l)]
  · rfl
  · rw [Shape.rowMajor_val_five, Shape.rowMajor_val_two]
    show ((((0 * 1 + 0) * 1 + 0) * 128 + K.val / 2) * 128 + l.val) = K.val / 2 * 128 + l.val
    omega

/-- The two planes side by side, at a column. -/
theorem sides_apply (s : Fin 2 → IVec S1x1x1x128x128 32) (K c : Fin 256) :
    concatenate S256x256 1 [⟨S256x128, halves (F := Ideal) (s 0)⟩, ⟨S256x128, halves (F := Ideal) (s 1)⟩]
        concatenates_S256x128_S256x128_S256x256_d1 (ix2 K c)
      = halfVal (s (⟨c.val / 128, by omega⟩ : Fin 2) (ix5 0 0 0 (⟨K.val / 2, by omega⟩ : Fin 128) (⟨c.val % 128, by omega⟩ : Fin 128)))
          (K.val % 2) := by
  rw [← halves_apply]
  by_cases h : c.val < 128
  · rw [show (⟨c.val / 128, by omega⟩ : Fin 2) = 0 from Fin.ext (by show c.val / 128 = 0; omega)]
    refine concatenate_pair_apply_left (s₁ := S256x128) (s₂ := S256x128) (1 : Fin 2) _ _ _ (ix2 K c) rfl _ fun a => ?_
    match a with
    | ⟨0, _⟩ => rfl
    | ⟨1, _⟩ => show c.val % 128 = c.val; omega
  · rw [show (⟨c.val / 128, by omega⟩ : Fin 2) = 1 from Fin.ext (by show c.val / 128 = 1; omega)]
    refine concatenate_pair_apply_right (s₁ := S256x128) (s₂ := S256x128) (1 : Fin 2) _ _ _ (ix2 K c) rfl rfl _ (fun a ha => ?_) ?_
    · match a with
      | ⟨0, _⟩ => rfl
      | ⟨1, _⟩ => exact absurd rfl ha
    · show c.val % 128 + 128 = c.val; omega

/-- One word's and byte's product, at an index. -/
theorem product_apply (xw : Vec Ideal S1x8x256 .bf16) (s : Fin 2 → IVec S1x1x1x128x128 32) (t : Fin 8) (c : Fin 256) :
    product (F := Ideal) xw (s 0) (s 1) (ix2 t c)
      = ∑ K : Fin 256, xw (ix3 0 t K)
          * halfVal (s (⟨c.val / 128, by omega⟩ : Fin 2) (ix5 0 0 0 (⟨K.val / 2, by omega⟩ : Fin 128) (⟨c.val % 128, by omega⟩ : Fin 128))) (K.val % 2) := by
  show FloatOps.matmul (DotDims.plain 8 256 256) none _ _ _ (ix2 t c) = _
  rw [Ideal.matmul_plain_apply]
  have h0 : (constant (F := Ideal) S8x256 .f32 0x00000000#32) (ix2 t c) = 0 := Ideal.ofBits_zero_f32
  rw [h0, zero_add]
  refine Finset.sum_congr rfl fun K _ => ?_
  rw [sides_apply, shapeCast_apply _ _ _ (ix3 0 t K)]
  rw [Shape.rowMajor_val_three, Shape.rowMajor_val_two]
  show (0 * 8 + t.val) * 256 + K.val = t.val * 256 + K.val
  omega

/-- Terms added in turn are added as one sum. -/
theorem asc_apply {α : Type} (j : α) : ∀ (n : Nat) (f : Fin n → (α → EReal) → α → EReal) (g : Fin n → EReal) (a : α → EReal),
    (∀ i a, f i a j = a j + g i) → asc n f a j = a j + ∑ i, g i
  | 0, f, g, a, _ => by rw [asc, Fin.sum_univ_zero, add_zero]
  | n + 1, f, g, a, h => by
    rw [asc, h, asc_apply j n _ (fun i => g i.castSucc) a fun i a => h i.castSucc a, Fin.sum_univ_castSucc, add_assoc]

/-- The sixteen products added up, at an index. -/
theorem accum_apply (acc : FVec Ideal S8x256 .f32) (xl : Fin 4 → Vec Ideal S1x8x256 .bf16)
    (sl : Fin 4 → Fin 4 → Fin 2 → IVec S1x1x1x128x128 32) (t : Fin 8) (c : Fin 256) :
    accum acc xl sl (ix2 t c)
      = acc (ix2 t c) + ∑ w : Fin 4, ∑ b : Fin 4, ∑ K : Fin 256, xl w (ix3 0 t K)
          * halfVal (sl b w (⟨c.val / 128, by omega⟩ : Fin 2) (ix5 0 0 0 (⟨K.val / 2, by omega⟩ : Fin 128) (⟨c.val % 128, by omega⟩ : Fin 128)))
              (K.val % 2) := by
  unfold accum
  refine asc_apply (ix2 t c) 4 _ _ acc fun w a => ?_
  refine asc_apply (ix2 t c) 4 _ _ a fun b a => ?_
  show a (ix2 t c) + product (F := Ideal) (xl w) (sl b w 0) (sl b w 1) (ix2 t c) = _
  rw [product_apply (xl w) (sl b w)]

/-- What one step adds at row `t`, column `c`. -/
noncomputable def gain (x0 : Vec Ideal S4x8x256 .bf16) (x1 x2 : IVec S64x8x128 8) (x3 : IVec S4x4x2x8x128 32) (t : Fin 8) (c : Fin 256) : EReal :=
  ∑ w : Fin 4, ∑ b : Fin 4, ∑ K : Fin 256, x0 (ix3 w t K)
    * halfVal (word (if c.val / 128 = 0 then x1 else x2) x3 b w (⟨K.val / 2, by omega⟩ : Fin 128) (⟨c.val % 128, by omega⟩ : Fin 128)) (K.val % 2)

/-- A corner at zero, rank 3. -/
theorem hz3 : (![0, 0, 0] : Fin 3 → Nat) = fun _ => 0 := funext fun a => by fin_cases a <;> rfl

/-- The load of a block of codes is the block. -/
theorem cload_eq (arg3 : Memref sig .tc .vmem S64x8x128 .i8) (harg3 : arg3.IsWhole) (x1 : IVec S64x8x128 8) :
    cload (F := Ideal) arg3 harg3 x1 = x1 := by
  unfold cload
  rw [View.readAt_eq_ld, harg3.read_unread, View.ld_unit_zero (S := S64x8x128) hz3]

/-- The load of a word's activations, at an index. -/
theorem xload_apply (arg2 : Memref sig .tc .vmem S4x8x256 .bf16) (harg2 : arg2.IsWhole) (x0 : Vec Ideal S4x8x256 .bf16) (w : Fin 4)
    (t : Fin 8) (K : Fin 256) : xload arg2 harg2 x0 w (ix3 0 t K) = x0 (ix3 w t K) := by
  unfold xload
  rw [View.readAt_eq_ld, harg2.read_unread]
  show x0 _ = _
  congr 1
  funext a
  match a with
  | ⟨0, _⟩ => exact Fin.ext (show w.val + 1 * 0 = w.val by omega)
  | ⟨1, _⟩ => exact Fin.ext (show 0 + 1 * t.val = t.val by omega)
  | ⟨2, _⟩ => exact Fin.ext (show 0 + 1 * K.val = K.val by omega)

/-- The load of a half of the table, at an index. -/
theorem tload_apply (arg5 : Memref sig .tc .vmem S4x4x2x8x128 .i32) (harg5 : arg5.IsWhole) (x3 : IVec S4x4x2x8x128 32)
    (b w : Fin 4) (h : Fin 2) (e : Fin 8) (l : Fin 128) :
    tload (F := Ideal) arg5 harg5 x3 b w h (ix5 0 0 0 e l) = x3 (ix5 b w h e l) := by
  unfold tload
  rw [View.readAt_eq_ld, harg5.read_unread]
  show x3 _ = _
  congr 1
  funext a
  match a with
  | ⟨0, _⟩ => exact Fin.ext (show b.val + 1 * 0 = b.val by omega)
  | ⟨1, _⟩ => exact Fin.ext (show w.val + 1 * 0 = w.val by omega)
  | ⟨2, _⟩ => exact Fin.ext (show h.val + 1 * 0 = h.val by omega)
  | ⟨3, _⟩ => exact Fin.ext (show 0 + 1 * e.val = e.val by omega)
  | ⟨4, _⟩ => exact Fin.ext (show 0 + 1 * l.val = l.val by omega)

/-- The stored accumulator is the one found plus the gain. -/
theorem stepped_apply (arg2 : Memref sig .tc .vmem S4x8x256 .bf16) (harg2 : arg2.IsWhole) (arg3 : Memref sig .tc .vmem S64x8x128 .i8)
    (harg3 : arg3.IsWhole) (arg4 : Memref sig .tc .vmem S64x8x128 .i8) (harg4 : arg4.IsWhole) (arg5 : Memref sig .tc .vmem S4x4x2x8x128 .i32)
    (harg5 : arg5.IsWhole) (arg8 : Memref sig .tc .vmem S4x4x2x128x128 .i32)
    (x0 : Vec Ideal S4x8x256 .bf16) (x1 x2 : IVec S64x8x128 8) (x3 : IVec S4x4x2x8x128 32)
    (acc : FVec Ideal S8x256 .f32) (t : Fin 8) (c : Fin 256) :
    stepped (F := Ideal) arg2 harg2 arg3 harg3 arg4 harg4 arg5 harg5 arg8 x0 x1 x2 x3 acc (ix2 t c)
      = acc (ix2 t c) + gain x0 x1 x2 x3 t c := by
  unfold stepped gain
  rw [shapeCast_self, accum_apply, cload_eq, cload_eq]
  refine congrArg (acc (ix2 t c) + ·) ?_
  refine Finset.sum_congr rfl fun w _ => Finset.sum_congr rfl fun b _ => Finset.sum_congr rfl fun K _ => ?_
  rw [xload_apply, plane_pieces x3 _ (tload_apply arg5 harg5 x3)]

end Cert.KernelIdeal.Codes
-- ==== Proof.Arrays.lean ====
/-
  The arrays the host prepares, read at an index. Half `p` of the table's word at (b, w, h, r, l) is the entry of codebook
  4 (r % 2) + b at code 128 h + l, position 2 w + p (`table_half`); the spread activations at (w, t, k) are `x` at row t,
  place 8 (k / 4) + 2 w + k % 2, and zero in the three rows added below (`spread_apply`).
-/
module

public import proofs.«01_k».proof.Proof.Product
public import Idealize.ShloMosaic.Lib.BitcastConvert
public import Idealize.ShloMosaic.Lib.ValueIdxRank6
public import Idealize.ShloMosaic.Lib.KernelVsHost

@[expose] public section

namespace Cert.KernelIdeal.Codes

open Cert.KernelIdeal Cert.KernelIdeal.Gen Cert.Codes Idealize.ShloMosaic Idealize.ShloMosaic.ValueIdx
open scoped BigOperators

/-- Rank 10: the row-major position. -/
theorem rowMajor_val_ten {d : Fin 10 → Nat} (i : (⟨10, d⟩ : Shape).Idx) :
    ((⟨10, d⟩ : Shape).rowMajor i).val
      = (((((((((i 0).val * d 1 + (i 1).val) * d 2 + (i 2).val) * d 3 + (i 3).val) * d 4 + (i 4).val) * d 5 + (i 5).val) * d 6
          + (i 6).val) * d 7 + (i 7).val) * d 8 + (i 8).val) * d 9 + (i 9).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val,
    Shape.rowMajorPi_succ_val, Shape.rowMajorPi_succ_val]
  simp [Shape.rowMajorPi_zero, Fin.prod_univ_succ, Nat.add_mul, Nat.mul_assoc, Nat.add_assoc]

/-- The table, from the codebooks' words. -/
def table (cb : IVec S8x256x8 16) : IVec S4x4x2x8x128 32 :=
  shapeCast S4x4x2x8x128
    (broadcastInDim S1x4x1x4x1x2x4x2x1x128 ![0, 1, 2, 3, 4, 5, 6, 7, 8, 9] bcast_S1x4x1x4x1x2x1x2x1x128_S1x4x1x4x1x2x4x2x1x128_0_1_2_3_4_5_6_7_8_9
      (shapeCast S1x4x1x4x1x2x1x2x1x128
        (Host.bitcastConvertWiden S4x4x2x2x128 32
          (transpose S4x4x2x2x128x2 [1, 4, 2, 0, 3, 5] (shapeCast S2x4x2x128x4x2 cb shapeCasts_S8x256x8_S2x4x2x128x4x2)
            transposes_S2x4x2x128x4x2_S4x4x2x2x128x2_1_4_2_0_3_5)
          splits_S4x4x2x2x128_w32_S4x4x2x2x128x2_w16)
        shapeCasts_S4x4x2x2x128_S1x4x1x4x1x2x1x2x1x128))
    shapeCasts_S1x4x1x4x1x2x4x2x1x128_S4x4x2x8x128

/-- A rank-10 index of the table's broadcast. -/
def ix10 {n : Nat} (b w : Fin 4) (h : Fin 2) (q : Fin n) (d : Fin 2) (l : Fin 128) :
    (⟨10, ![1, 4, 1, 4, 1, 2, n, 2, 1, 128]⟩ : Shape).Idx
  | ⟨0, _⟩ => (0 : Fin 1) | ⟨1, _⟩ => b | ⟨2, _⟩ => (0 : Fin 1) | ⟨3, _⟩ => w | ⟨4, _⟩ => (0 : Fin 1) | ⟨5, _⟩ => h
  | ⟨6, _⟩ => q | ⟨7, _⟩ => d | ⟨8, _⟩ => (0 : Fin 1) | ⟨9, _⟩ => l

/-- Of two 16-bit words put together, half 0 is the low one and half 1 the high one. -/
theorem half_append (hi lo : BitVec 16) (p : Nat) (hp : p < 2) : half (hi ++ lo) p = if p = 0 then lo else hi := by
  unfold half
  match p, hp with
  | 0, _ => exact BitVec.extractLsb'_append_eq_right
  | 1, _ => exact BitVec.extractLsb'_append_eq_left

/-- A half of a word of the table is an entry of a codebook. -/
theorem table_half (cb : IVec S8x256x8 16) (b w : Fin 4) (h : Fin 2) (r : Fin 8) (l : Fin 128) (p : Fin 2) :
    half (table cb (ix5 b w h r l)) p.val
      = cb (ix3 (⟨4 * (r.val % 2) + b.val, by omega⟩ : Fin 8) (⟨128 * h.val + l.val, by omega⟩ : Fin 256) (⟨2 * w.val + p.val, by omega⟩ : Fin 8)) := by
  have hpart : ∀ (k : Fin 2), shapeCast S2x4x2x128x4x2 cb shapeCasts_S8x256x8_S2x4x2x128x4x2 (ix6 (⟨r.val % 2, by omega⟩ : Fin 2) b h l w k)
      = cb (ix3 (⟨4 * (r.val % 2) + b.val, by omega⟩ : Fin 8) (⟨128 * h.val + l.val, by omega⟩ : Fin 256) (⟨2 * w.val + k.val, by omega⟩ : Fin 8)) := fun k => by
    rw [shapeCast_apply]
    rw [Shape.rowMajor_val_three, Shape.rowMajor_val_six]
    show ((4 * (r.val % 2) + b.val) * 256 + (128 * h.val + l.val)) * 8 + (2 * w.val + k.val)
      = (((((r.val % 2) * 4 + b.val) * 2 + h.val) * 128 + l.val) * 4 + w.val) * 2 + k.val
    omega
  unfold table
  rw [shapeCast_apply _ _ (ix5 b w h r l) (ix10 b w h (⟨r.val / 2, by omega⟩ : Fin 4) (⟨r.val % 2, by omega⟩ : Fin 2) l) (by
    rw [rowMajor_val_ten, Shape.rowMajor_val_five]
    show (((((((((0 * 4 + b.val) * 1 + 0) * 4 + w.val) * 1 + 0) * 2 + h.val) * 4 + r.val / 2) * 2 + r.val % 2) * 1 + 0) * 128 + l.val)
      = (((b.val * 4 + w.val) * 2 + h.val) * 8 + r.val) * 128 + l.val
    omega)]
  rw [broadcastInDim_apply _ _ _ _ (ix10 b w h (0 : Fin 1) (⟨r.val % 2, by omega⟩ : Fin 2) l) (fun a => by
    match a with
    | ⟨0, _⟩ => rfl | ⟨1, _⟩ => rfl | ⟨2, _⟩ => rfl | ⟨3, _⟩ => rfl | ⟨4, _⟩ => rfl | ⟨5, _⟩ => rfl
    | ⟨6, _⟩ => rfl | ⟨7, _⟩ => rfl | ⟨8, _⟩ => rfl | ⟨9, _⟩ => rfl)]
  rw [shapeCast_apply _ _ _ (ix5 b w h (⟨r.val % 2, by omega⟩ : Fin 2) l) (by
    rw [rowMajor_val_ten, Shape.rowMajor_val_five]
    show (((b.val * 4 + w.val) * 2 + h.val) * 2 + r.val % 2) * 128 + l.val
      = (((((((((0 * 4 + b.val) * 1 + 0) * 4 + w.val) * 1 + 0) * 2 + h.val) * 1 + 0) * 2 + r.val % 2) * 1 + 0) * 128 + l.val)
    omega)]
  rw [Host.bitcastConvertWiden_apply_16_32, half_append _ _ _ p.isLt]
  have hsrc : ∀ (k : Fin 2) (hk : k.val < S4x4x2x2x128x2.size splits_S4x4x2x2x128_w32_S4x4x2x2x128x2_w16.axis),
      transpose S4x4x2x2x128x2 [1, 4, 2, 0, 3, 5] (shapeCast S2x4x2x128x4x2 cb shapeCasts_S8x256x8_S2x4x2x128x4x2)
        transposes_S2x4x2x128x4x2_S4x4x2x2x128x2_1_4_2_0_3_5
        (splits_S4x4x2x2x128_w32_S4x4x2x2x128x2_w16.snoc (ix5 b w h (⟨r.val % 2, by omega⟩ : Fin 2) l) ⟨k.val, hk⟩)
      = cb (ix3 (⟨4 * (r.val % 2) + b.val, by omega⟩ : Fin 8) (⟨128 * h.val + l.val, by omega⟩ : Fin 256) (⟨2 * w.val + k.val, by omega⟩ : Fin 8)) := fun k hk => by
    rw [← hpart k]
    refine transpose_apply _ _ _ _ _ fun a => ?_
    match a with
    | ⟨0, _⟩ => rfl | ⟨1, _⟩ => rfl | ⟨2, _⟩ => rfl | ⟨3, _⟩ => rfl | ⟨4, _⟩ => rfl | ⟨5, _⟩ => rfl
  match p with
  | ⟨0, _⟩ => rw [if_pos rfl]; exact hsrc 0 _
  | ⟨1, _⟩ => rw [if_neg Nat.one_ne_zero]; exact hsrc 1 _

/-- `x` at row `t`, place `k`, zero in the rows past the fifth. -/
noncomputable def xAt (x : FVec Ideal S5x1x8192 .bf16) (t : Fin 8) (k : Fin 8192) : EReal :=
  if h : t.val < 5 then x (ix3 (⟨t.val, h⟩ : Fin 5) (0 : Fin 1) k) else 0

variable {F : FTy → Type} [FloatOps F] in
/-- The activations as the kernel is given them. -/
def spread (x : FVec F S5x1x8192 .bf16) : FVec F S4x8x4096 .bf16 :=
  pad S4x8x4096 ![0, 0, 0] ![0, 3, 0] ![0, 0, 0]
    (shapeCast S4x5x4096
      (broadcastInDim S4x5x1024x2x2 ![0, 1, 2, 3, 4] bcast_S4x5x1024x1x2_S4x5x1024x2x2_0_1_2_3_4
        (broadcastInDim S4x5x1024x1x2 ![0, 1, 2, 4] bcast_S4x5x1024x2_S4x5x1024x1x2_0_1_2_4
          (transpose S4x5x1024x2 [2, 0, 1, 3] (shapeCast S5x1024x4x2 x shapeCasts_S5x1x8192_S5x1024x4x2)
            transposes_S5x1024x4x2_S4x5x1024x2_2_0_1_3)))
      shapeCasts_S4x5x1024x2x2_S4x5x4096)
    (sitofp .bf16 (constantI S_ 32 0#32)) pads_S4x5x4096_S4x8x4096_000_030_000 h_S_

/-- The activations as the kernel is given them, at an index. -/
theorem spread_apply (x : FVec Ideal S5x1x8192 .bf16) (w : Fin 4) (t : Fin 8) (k : Fin 4096) :
    spread x (ix3 w t k) = xAt x t ⟨8 * (k.val / 4) + 2 * w.val + k.val % 2, by omega⟩ := by
  unfold spread xAt
  by_cases h : t.val < 5
  · rw [dif_pos h]
    rw [pad_apply_of_inside _ _ _ _ _ _ _ (ix3 w t k) (ix3 w (⟨t.val, h⟩ : Fin 5) k) (fun a => by
      match a with
      | ⟨0, _⟩ => show w.val = 0 + w.val * 1; omega
      | ⟨1, _⟩ => show t.val = 0 + t.val * 1; omega
      | ⟨2, _⟩ => show k.val = 0 + k.val * 1; omega)]
    rw [shapeCast_apply _ _ _ (ix5 w (⟨t.val, h⟩ : Fin 5) (⟨k.val / 4, by omega⟩ : Fin 1024) (⟨k.val / 2 % 2, by omega⟩ : Fin 2) (⟨k.val % 2, by omega⟩ : Fin 2)) (by
      rw [Shape.rowMajor_val_five, Shape.rowMajor_val_three]
      show (((w.val * 5 + t.val) * 1024 + k.val / 4) * 2 + k.val / 2 % 2) * 2 + k.val % 2 = (w.val * 5 + t.val) * 4096 + k.val
      omega)]
    rw [broadcastInDim_apply _ _ _ _ (ix5 w (⟨t.val, h⟩ : Fin 5) (⟨k.val / 4, by omega⟩ : Fin 1024) (0 : Fin 1) (⟨k.val % 2, by omega⟩ : Fin 2)) (fun a => by
      match a with | ⟨0, _⟩ => rfl | ⟨1, _⟩ => rfl | ⟨2, _⟩ => rfl | ⟨3, _⟩ => rfl | ⟨4, _⟩ => rfl)]
    rw [broadcastInDim_apply _ _ _ _ (ix4 w (⟨t.val, h⟩ : Fin 5) (⟨k.val / 4, by omega⟩ : Fin 1024) (⟨k.val % 2, by omega⟩ : Fin 2)) (fun a => by
      match a with | ⟨0, _⟩ => rfl | ⟨1, _⟩ => rfl | ⟨2, _⟩ => rfl | ⟨3, _⟩ => rfl)]
    rw [transpose_apply _ _ _ _ (ix4 (⟨t.val, h⟩ : Fin 5) (⟨k.val / 4, by omega⟩ : Fin 1024) w (⟨k.val % 2, by omega⟩ : Fin 2)) (fun a => by
      match a with | ⟨0, _⟩ => rfl | ⟨1, _⟩ => rfl | ⟨2, _⟩ => rfl | ⟨3, _⟩ => rfl)]
    rw [shapeCast_apply _ _ _ (ix3 (⟨t.val, h⟩ : Fin 5) (0 : Fin 1) (⟨8 * (k.val / 4) + 2 * w.val + k.val % 2, by omega⟩ : Fin 8192)) (by
      rw [Shape.rowMajor_val_four, Shape.rowMajor_val_three]
      show (t.val * 1 + 0) * 8192 + (8 * (k.val / 4) + 2 * w.val + k.val % 2) = ((t.val * 1024 + k.val / 4) * 4 + w.val) * 2 + k.val % 2
      omega)]
  · rw [dif_neg h]
    rw [pad_apply_of_not_inside _ _ _ _ _ _ _ (ix3 w t k) (1 : Fin 3) (by
      show ¬(0 ≤ t.val ∧ (t.val - 0) % 1 = 0 ∧ (t.val - 0) / 1 < 5)
      omega)]
    show (((0#32 : BitVec 32).toInt : ℝ) : EReal) = 0
    simp

end Cert.KernelIdeal.Codes
-- ==== Proof.Blocks.lean ====
/-
  The input blocks of a grid point, read at an index of the arguments. Point `t` is step `t % 16` of column tile `t / 16`.
-/
module

public import proofs.«01_k».proof.Proof.Arrays
public import proofs.«01_k».proof.Proof.Gen.KernelIdeal.Frame.Runs

@[expose] public section

namespace Cert.KernelIdeal.Codes

open Cert.KernelIdeal Cert.KernelIdeal.Gen Cert.Codes Idealize.ShloMosaic Idealize.ShloMosaic.ValueIdx Idealize.ShloMosaic.TcCoe
open Idealize.ShloMosaic.StableHlo

variable {F : FTy → Type} [FloatOps F] (m : (ℓ : Loc nD τ sig) → Buf (Elt F) ℓ)

/-- The arguments, as arrays. -/
abbrev argX (c : Dev nD) : FVec F S5x1x8192 .bf16 := m ((c : Thread nD τ).loc main_arg0)
abbrev argCodes (c : Dev nD) : IVec S1024x8x1280 8 := m ((c : Thread nD τ).loc main_arg1)
abbrev argBooks (c : Dev nD) : IVec S8x256x8 16 := m ((c : Thread nD τ).loc main_arg2)
abbrev argScales (c : Dev nD) : FVec F S1280 .f32 := m ((c : Thread nD τ).loc main_arg3)

/-- What the host leaves in the table's buffer. -/
theorem V_table (c : Dev nD) : V m c main_v5 = table (argBooks m c) := by
  unfold V
  simp only [hostOps0, hostOps0_1, hostOps0_2, List.flatten_cons, List.flatten_nil, List.append_nil, List.cons_append, List.nil_append,
    TRef.binary, TRef.unary, TRef.toBuf, TRef.ofBuf, cast_eq]
  after_results <;> rfl

/-- What the host leaves in the activations' buffer. -/
theorem V_spread (c : Dev nD) : V m c main_v11 = spread (argX m c) := by
  unfold V
  simp only [hostOps0, hostOps0_1, hostOps0_2, List.flatten_cons, List.flatten_nil, List.append_nil, List.cons_append, List.nil_append,
    TRef.binary, TRef.unary, TRef.toBuf, TRef.ofBuf, cast_eq]
  after_results <;> rfl

/-- What the host leaves in the scales' buffer. -/
theorem V_scales (c : Dev nD) : V m c main_v12 = shapeCast S1x1280 (argScales m c) shapeCasts_S1280_S1x1280 := by
  unfold V
  simp only [hostOps0, hostOps0_1, hostOps0_2, List.flatten_cons, List.flatten_nil, List.append_nil, List.cons_append, List.nil_append,
    TRef.binary, TRef.unary, TRef.toBuf, TRef.ofBuf, cast_eq]
  after_results <;> rfl

/-- The activations' block at a point. -/
theorem index0 : ∀ t : Fin cfg0.N, win0_0.index t = ![0, 0, t.val % 16] := (by decide +kernel : ∀ t : Fin grid0.N, _)
/-- The first block of codes at a point. -/
theorem index1 : ∀ t : Fin cfg0.N, win0_1.index t = ![t.val % 16, 0, 2 * (t.val / 16)] := (by decide +kernel : ∀ t : Fin grid0.N, _)
/-- The second block of codes at a point. -/
theorem index2 : ∀ t : Fin cfg0.N, win0_2.index t = ![t.val % 16, 0, 2 * (t.val / 16) + 1] := (by decide +kernel : ∀ t : Fin grid0.N, _)
/-- The table's block at a point. -/
theorem index3 : ∀ t : Fin cfg0.N, win0_3.index t = ![0, 0, 0, 0, 0] := (by decide +kernel : ∀ t : Fin grid0.N, _)
/-- The scales' block at a point. -/
theorem index4 : ∀ t : Fin cfg0.N, win0_4.index t = ![0, t.val / 16] := (by decide +kernel : ∀ t : Fin grid0.N, _)

/-- There are eighty points. -/
theorem lt80 (t : Fin cfg0.N) : t.val < 80 := lt_of_lt_of_eq t.isLt (show cfg0.N = 80 from N_0)

/-- The activations' block. -/
theorem iblk0_apply (c : Dev nD) (t : Fin cfg0.N) (w : Fin 4) (r : Fin 8) (K : Fin 256) :
    (iblk m c 0 t : Vec F S4x8x256 .bf16) (ix3 w r K) = spread (argX m c) (ix3 w r (⟨256 * (t.val % 16) + K.val, by omega⟩ : Fin 4096)) := by
  unfold iblk
  rw [View.read_apply]
  show V m c main_v11 _ = _
  rw [V_spread]
  congr 1
  have h := index0 t
  funext a
  apply Fin.ext
  match a with
  | ⟨0, _⟩ => show win0_0.index t 0 * 4 + 1 * w.val = w.val; rw [show win0_0.index t 0 = 0 from congrFun h 0]; omega
  | ⟨1, _⟩ => show win0_0.index t 1 * 8 + 1 * r.val = r.val; rw [show win0_0.index t 1 = 0 from congrFun h 1]; omega
  | ⟨2, _⟩ => show win0_0.index t 2 * 256 + 1 * K.val = 256 * (t.val % 16) + K.val
              rw [show win0_0.index t 2 = t.val % 16 from congrFun h 2]; omega

/-- The first lane tile's block of codes. -/
theorem iblk1_apply (c : Dev nD) (t : Fin cfg0.N) (g : Fin 64) (k : Fin 8) (l : Fin 128) :
    (iblk m c 1 t : Vec F S64x8x128 .i8) (ix3 g k l)
      = argCodes m c (ix3 (⟨64 * (t.val % 16) + g.val, by omega⟩ : Fin 1024) k
          (⟨256 * (t.val / 16) + l.val, by have := lt80 t; omega⟩ : Fin 1280)) := by
  unfold iblk
  rw [View.read_apply]
  show V m c main_arg1 _ = _
  rw [V_main_arg1]
  congr 1
  have h := index1 t
  funext a
  apply Fin.ext
  match a with
  | ⟨0, _⟩ => show win0_1.index t 0 * 64 + 1 * g.val = 64 * (t.val % 16) + g.val
              rw [show win0_1.index t 0 = t.val % 16 from congrFun h 0]; omega
  | ⟨1, _⟩ => show win0_1.index t 1 * 8 + 1 * k.val = k.val; rw [show win0_1.index t 1 = 0 from congrFun h 1]; omega
  | ⟨2, _⟩ => show win0_1.index t 2 * 128 + 1 * l.val = 256 * (t.val / 16) + l.val
              rw [show win0_1.index t 2 = 2 * (t.val / 16) from congrFun h 2]; omega

/-- The second lane tile's. -/
theorem iblk2_apply (c : Dev nD) (t : Fin cfg0.N) (g : Fin 64) (k : Fin 8) (l : Fin 128) :
    (iblk m c 2 t : Vec F S64x8x128 .i8) (ix3 g k l)
      = argCodes m c (ix3 (⟨64 * (t.val % 16) + g.val, by omega⟩ : Fin 1024) k
          (⟨256 * (t.val / 16) + 128 + l.val, by have := lt80 t; omega⟩ : Fin 1280)) := by
  unfold iblk
  rw [View.read_apply]
  show V m c main_arg1 _ = _
  rw [V_main_arg1]
  congr 1
  have h := index2 t
  funext a
  apply Fin.ext
  match a with
  | ⟨0, _⟩ => show win0_2.index t 0 * 64 + 1 * g.val = 64 * (t.val % 16) + g.val
              rw [show win0_2.index t 0 = t.val % 16 from congrFun h 0]; omega
  | ⟨1, _⟩ => show win0_2.index t 1 * 8 + 1 * k.val = k.val; rw [show win0_2.index t 1 = 0 from congrFun h 1]; omega
  | ⟨2, _⟩ => show win0_2.index t 2 * 128 + 1 * l.val = 256 * (t.val / 16) + 128 + l.val
              rw [show win0_2.index t 2 = 2 * (t.val / 16) + 1 from congrFun h 2]; omega

/-- The table's block is the table. -/
theorem iblk3_eq (c : Dev nD) (t : Fin cfg0.N) : (iblk m c 3 t : Vec F S4x4x2x8x128 .i32) = table (argBooks m c) := by
  funext j
  unfold iblk
  rw [View.read_apply]
  show V m c main_v5 _ = _
  rw [V_table]
  congr 1
  have h := index3 t
  funext a
  apply Fin.ext
  match a with
  | ⟨0, _⟩ => show win0_3.index t 0 * 4 + 1 * (j 0).val = (j 0).val; rw [show win0_3.index t 0 = 0 from congrFun h 0]; omega
  | ⟨1, _⟩ => show win0_3.index t 1 * 4 + 1 * (j 1).val = (j 1).val; rw [show win0_3.index t 1 = 0 from congrFun h 1]; omega
  | ⟨2, _⟩ => show win0_3.index t 2 * 2 + 1 * (j 2).val = (j 2).val; rw [show win0_3.index t 2 = 0 from congrFun h 2]; omega
  | ⟨3, _⟩ => show win0_3.index t 3 * 8 + 1 * (j 3).val = (j 3).val; rw [show win0_3.index t 3 = 0 from congrFun h 3]; omega
  | ⟨4, _⟩ => show win0_3.index t 4 * 128 + 1 * (j 4).val = (j 4).val; rw [show win0_3.index t 4 = 0 from congrFun h 4]; omega

/-- The scales' block. -/
theorem iblk4_apply (c : Dev nD) (t : Fin cfg0.N) (k : Fin 256) :
    (iblk m c 4 t : Vec F S1x256 .f32) (ix2 (0 : Fin 1) k)
      = argScales m c (ix1 (⟨256 * (t.val / 16) + k.val, by have := lt80 t; omega⟩ : Fin 1280)) := by
  unfold iblk
  rw [View.read_apply]
  show V m c main_v12 _ = _
  rw [V_scales]
  have h := index4 t
  rw [shapeCast_apply _ _ _ (ix1 (⟨256 * (t.val / 16) + k.val, by have := lt80 t; omega⟩ : Fin 1280))]
  rw [Shape.rowMajor_val_one, Shape.rowMajor_val_two]
  show 256 * (t.val / 16) + k.val = (win0_4.index t 0 * 1 + 1 * 0) * 1280 + (win0_4.index t 1 * 256 + 1 * k.val)
  rw [show win0_4.index t 0 = 0 from congrFun h 0, show win0_4.index t 1 = t.val / 16 from congrFun h 1]
  omega

end Cert.KernelIdeal.Codes
-- ==== Proof.Fold.lean ====
/-
  The accumulator over the sixteen steps of an output block, on the extended reals: each step adds its triple sum (`gain`), the
  first into zero, and the last writes the total times the scales. So what the result array holds is, at every entry, the sum of
  sixteen gains times one scale (`G5_apply`).
-/
module

public import proofs.«01_k».proof.Proof.RunA
public import proofs.«01_k».proof.Proof.RunB
public import proofs.«01_k».proof.Proof.RunC
public import proofs.«01_k».proof.Proof.Product
public import proofs.«01_k».proof.Proof.Blocks
public import proofs.«01_k».proof.Proof.Gen.KernelIdeal.Value

@[expose] public section

set_option maxRecDepth 16384

namespace Cert.KernelIdeal.Codes

open Cert.KernelIdeal Cert.KernelIdeal.Gen Cert.Codes Idealize.ShloMosaic Idealize.ShloMosaic.TcCoe Idealize.ShloMosaic.ValueIdx
open scoped BigOperators

/-- A corner at zero, rank 2. -/
theorem hz2 : (![0, 0] : Fin 2 → Nat) = fun _ => 0 := funext fun a => by fin_cases a <;> rfl

section Cases

variable (c : Dev nD) (i : grid0.Coords) (arg2 : Memref sig .tc .vmem S4x8x256 .bf16) (harg2 : arg2.IsWhole) (arg3 : Memref sig .tc .vmem S64x8x128 .i8) (harg3 : arg3.IsWhole) (arg4 : Memref sig .tc .vmem S64x8x128 .i8) (harg4 : arg4.IsWhole) (arg5 : Memref sig .tc .vmem S4x4x2x8x128 .i32) (harg5 : arg5.IsWhole) (arg6 : Memref sig .tc .vmem S1x256 .f32) (harg6 : arg6.IsWhole) (arg7 : Memref sig .tc .vmem S8x256 .bf16) (harg7 : arg7.IsWhole) (arg8 : Memref sig .tc .vmem S4x4x2x128x128 .i32) (harg8 : arg8.IsWhole) (arg9 : Memref sig .tc .vmem S8x256 .f32) (harg9 : arg9.IsWhole)
    (x0 : Vec Ideal S4x8x256 .bf16) (x1 : Vec Ideal S64x8x128 .i8) (x2 : Vec Ideal S64x8x128 .i8) (x3 : Vec Ideal S4x4x2x8x128 .i32) (x4 : Vec Ideal S1x256 .f32) (xs1 : Vec Ideal S8x256 .f32) (r : Fin 8) (k : Fin 256)

/-- The first step leaves its own sum in the accumulator. -/
theorem acc_A (hc0 : cond0_0 i) (hc1 : ¬cond0_1 i) :
    sout0_A_1 (F := Ideal) c i arg2 harg2 arg3 harg3 arg4 harg4 arg5 harg5 arg6 harg6 arg7 harg7 arg8 harg8 arg9 harg9 hc0 hc1 x0 x1 x2 x3 x4 (ix2 r k)
      = gain x0 x1 x2 x3 r k := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4), pieces_A]
  rw [View.canon_cons_unit_zero (S := S8x256) hz2, View.readCov_unit_zero (S := S8x256) _ hz2, stepped_apply]
  rw [show (k0_pay3 (F := Ideal)) (ix2 r k) = 0 from Ideal.ofBits_zero_f32, zero_add]

/-- A middle step adds its sum to what the accumulator held. -/
theorem acc_B (hc0 : ¬cond0_0 i) (hc1 : ¬cond0_1 i) :
    sout0_B_1 (F := Ideal) c i arg2 harg2 arg3 harg3 arg4 harg4 arg5 harg5 arg6 harg6 arg7 harg7 arg8 harg8 arg9 harg9 hc0 hc1 x0 x1 x2 x3 x4 xs1 (ix2 r k)
      = xs1 (ix2 r k) + gain x0 x1 x2 x3 r k := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs1), pieces_B]
  rw [View.canon_unit_zero (S := S8x256) hz2, stepped_apply, View.readAt_eq_ld, harg9.read_unread, View.ld_unit_zero (S := S8x256) hz2]

/-- So does the last. -/
theorem acc_C (hc0 : ¬cond0_0 i) (hc1 : cond0_1 i) :
    sout0_C_1 (F := Ideal) c i arg2 harg2 arg3 harg3 arg4 harg4 arg5 harg5 arg6 harg6 arg7 harg7 arg8 harg8 arg9 harg9 hc0 hc1 x0 x1 x2 x3 x4 xs1 (ix2 r k)
      = xs1 (ix2 r k) + gain x0 x1 x2 x3 r k := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs1), pieces_C]
  rw [View.canon_unit_zero (S := S8x256) hz2, stepped_apply, View.readAt_eq_ld, harg9.read_unread, View.ld_unit_zero (S := S8x256) hz2]

/-- And the last writes that total times the column's scale. -/
theorem out_C (hc0 : ¬cond0_0 i) (hc1 : cond0_1 i) :
    out0_C_5 (F := Ideal) c i arg2 harg2 arg3 harg3 arg4 harg4 arg5 harg5 arg6 harg6 arg7 harg7 arg8 harg8 arg9 harg9 hc0 hc1 x0 x1 x2 x3 x4 xs1 (ix2 r k)
      = (xs1 (ix2 r k) + gain x0 x1 x2 x3 r k) * x4 (ix2 0 k) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs1), result_C]
  rw [View.canon_unit_zero (S := S8x256) hz2, View.readCov_unit_zero (S := S8x256) _ hz2]
  rw [View.readAt_eq_ld, harg9.read_unread, View.ld_unit_zero (S := S8x256) hz2]
  rw [View.readAt_eq_ld, harg6.read_unread, View.ld_unit_zero (S := S1x256) hz2]
  unfold k0_pay2
  show stepped (F := Ideal) _ _ _ _ _ _ _ _ _ _ _ _ _ _ (ix2 r k) * _ = _
  rw [stepped_apply, shapeCast_self]
  refine congrArg (_ * x4 ·) ?_
  funext a
  match a with
  | ⟨0, _⟩ => rfl
  | ⟨1, _⟩ => rfl

end Cases

section Fold

variable (m : (ℓ : Loc nD τ sig) → Buf (Elt Ideal) ℓ)

/-- What point `n` of the grid adds at row `r`, column `k` of its block. -/
noncomputable def gainAt (c : Dev nD) (n : Nat) (r : Fin 8) (k : Fin 256) : EReal :=
  if h : n < cfg0.N then
    gain (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) r k
  else 0

/-- At a point of the grid. -/
theorem gainAt_of (c : Dev nD) (t : Fin cfg0.N) (r : Fin 8) (k : Fin 256) :
    gainAt m c t.val r k = gain (iblk m c 0 t) (iblk m c 1 t) (iblk m c 2 t) (iblk m c 3 t) r k := dif_pos t.isLt

/-- After point `n` the accumulator holds the sum of what the block's points so far have added. -/
theorem acc_eq (c : Dev nD) (r : Fin 8) (k : Fin 256) : ∀ (n : Nat) (h : n < cfg0.N),
    (outsAt0 m c n h).2 (ix2 r k) = ∑ s ∈ Finset.range (n % 16 + 1), gainAt m c (16 * (n / 16) + s) r k := by
  intro n
  induction n using Nat.strong_induction_on with
  | _ n ih =>
    intro h
    have step : ∀ (h0 : ¬ n % 16 = 0), (outsAt0 m c (n - 1) (Nat.lt_of_le_of_lt (Nat.sub_le _ _) h)).2 (ix2 r k)
        + gainAt m c n r k = ∑ s ∈ Finset.range (n % 16 + 1), gainAt m c (16 * (n / 16) + s) r k := by
      intro h0
      rw [ih (n - 1) (by omega), Finset.sum_range_succ _ (n % 16), show (n - 1) % 16 + 1 = n % 16 by omega,
        show (n - 1) / 16 = n / 16 by omega, show 16 * (n / 16) + n % 16 = n by omega]
    by_cases h0 : n % 16 = 0
    · rw [outsAt0_A m c ⟨n, h⟩ h0 (by show ¬ n % 16 = 15; omega)]
      dsimp only
      rw [acc_A, ← gainAt_of, h0]
      simp only [Nat.zero_add, Finset.sum_range_one, Nat.add_zero]
      rw [show 16 * (n / 16) = n by omega]
    · by_cases h1 : n % 16 = 15
      · rw [outsAt0_C m c ⟨n, h⟩ h0 h1]
        dsimp only
        rw [acc_C, ← gainAt_of]
        exact step h0
      · rw [outsAt0_B m c ⟨n, h⟩ h0 h1]
        dsimp only
        rw [acc_B, ← gainAt_of]
        exact step h0

/-- The result array at row `r`, column `o`: sixteen gains, times the column's scale. -/
theorem G5_apply (c : Dev nD) (r : Fin 8) (o : Fin 1280) :
    Value.G5 m c (ix2 r o) = (∑ s ∈ Finset.range 16, gainAt m c (16 * (o.val / 256) + s) r (⟨o.val % 256, by omega⟩ : Fin 256))
      * argScales m c (ix1 o) := by
  have hp : Value.pt5Of (ix2 r o) = 16 * (o.val / 256) + 15 := by
    show 16 * (5 * (r.val / 8 - 0) + 1 * (o.val / 256 - 0)) + 15 = _
    omega
  have hlt : 16 * (o.val / 256) + 15 < cfg0.N := lt_of_lt_of_eq (by omega) (show cfg0.N = 80 from N_0).symm
  have hl : Value.loc5Of (ix2 r o) = ix2 r (⟨o.val % 256, by omega⟩ : Fin 256) := by
    funext a
    match a with
    | ⟨0, _⟩ => exact Fin.ext (show r.val % 8 = r.val by omega)
    | ⟨1, _⟩ => rfl
  unfold Value.G5
  rw [dif_pos (by rw [hp]; exact hlt), hl, Value.fold0_congr m c _ _ _ (by omega) hp, ← Value.outsAt0_sweep m c _ hlt]
  have h0 : ¬ (16 * (o.val / 256) + 15) % 16 = 0 := by omega
  have h1 : (16 * (o.val / 256) + 15) % 16 = 15 := by omega
  have e := acc_eq m c r (⟨o.val % 256, by omega⟩ : Fin 256) _ hlt
  rw [outsAt0_C m c ⟨_, hlt⟩ h0 h1] at e ⊢
  dsimp only at e ⊢
  rw [acc_C] at e
  rw [out_C, e, iblk4_apply]
  have a0 : (16 * (o.val / 256) + 15) / 16 = o.val / 256 := by omega
  congr 1
  · rw [h1, a0]
  · congr 2
    exact Fin.ext (show 256 * ((16 * (o.val / 256) + 15) / 16) + o.val % 256 = o.val by omega)

end Fold

end Cert.KernelIdeal.Codes
-- ==== Proof.Equation.lean ====
/-
  The sum the kernel computes, re-indexed: a step s, a byte b, a word w and a row K of a plane name the group 64 s + K / 4,
  the codebook 4 (K / 2 % 2) + b and the place 2 w + K % 2, each triple of those exactly once. So sixteen gains are one sum
  over groups, codebooks and places of an activation times a codebook's entry (`gains_eq`).
-/
module

public import proofs.«01_k».proof.Proof.Fold

@[expose] public section

set_option maxRecDepth 16384

namespace Cert.KernelIdeal.Codes

open Cert.KernelIdeal Cert.KernelIdeal.Gen Cert.Codes Idealize.ShloMosaic Idealize.ShloMosaic.TcCoe Idealize.ShloMosaic.ValueIdx
open scoped BigOperators

/-- One product of the sum: `x` at row `r`, group `g`, place `j`, times codebook `q`'s entry at its code there, place `j`. -/
noncomputable def term (x : FVec Ideal S5x1x8192 .bf16) (codes : IVec S1024x8x1280 8) (cb : IVec S8x256x8 16) (r : Fin 8) (o : Fin 1280)
    (g : Fin 1024) (q j : Fin 8) : EReal :=
  xAt x r (⟨8 * g.val + j.val, by omega⟩ : Fin 8192)
    * FloatOps.ofBits (F := Ideal) .bf16 (cb (ix3 q (⟨(codes (ix3 g q o)).toNat, (codes (ix3 g q o)).isLt⟩ : Fin 256) j))

/-- A step, a word, a byte and a plane's row, as a group, a codebook and a place. -/
def places : Fin 16 × Fin 4 × Fin 4 × Fin 256 ≃ Fin 1024 × Fin 8 × Fin 8 where
  toFun p := (⟨64 * p.1.val + p.2.2.2.val / 4, by omega⟩, ⟨4 * (p.2.2.2.val / 2 % 2) + p.2.2.1.val, by omega⟩,
    ⟨2 * p.2.1.val + p.2.2.2.val % 2, by omega⟩)
  invFun p := (⟨p.1.val / 64, by omega⟩, ⟨p.2.2.val / 2, by omega⟩, ⟨p.2.1.val % 4, by omega⟩,
    ⟨4 * (p.1.val % 64) + 2 * (p.2.1.val / 4) + p.2.2.val % 2, by omega⟩)
  left_inv p := by
    obtain ⟨s, w, b, K⟩ := p
    refine Prod.ext (Fin.ext ?_) (Prod.ext (Fin.ext ?_) (Prod.ext (Fin.ext ?_) (Fin.ext ?_)))
    · show (64 * s.val + K.val / 4) / 64 = s.val; omega
    · show (2 * w.val + K.val % 2) / 2 = w.val; omega
    · show (4 * (K.val / 2 % 2) + b.val) % 4 = b.val; omega
    · show 4 * ((64 * s.val + K.val / 4) % 64) + 2 * ((4 * (K.val / 2 % 2) + b.val) / 4) + (2 * w.val + K.val % 2) % 2 = K.val; omega
  right_inv p := by
    obtain ⟨g, q, j⟩ := p
    refine Prod.ext (Fin.ext ?_) (Prod.ext (Fin.ext ?_) (Fin.ext ?_))
    · show 64 * (g.val / 64) + (4 * (g.val % 64) + 2 * (q.val / 4) + j.val % 2) / 4 = g.val; omega
    · show 4 * ((4 * (g.val % 64) + 2 * (q.val / 4) + j.val % 2) / 2 % 2) + q.val % 4 = q.val; omega
    · show 2 * (j.val / 2) + (4 * (g.val % 64) + 2 * (q.val / 4) + j.val % 2) % 2 = j.val; omega

/-- A sum over the four is a sum over the three. -/
theorem sum_places (f : Fin 1024 → Fin 8 → Fin 8 → EReal) :
    ∑ s : Fin 16, ∑ w : Fin 4, ∑ b : Fin 4, ∑ K : Fin 256,
        f (⟨64 * s.val + K.val / 4, by omega⟩ : Fin 1024) (⟨4 * (K.val / 2 % 2) + b.val, by omega⟩ : Fin 8) (⟨2 * w.val + K.val % 2, by omega⟩ : Fin 8)
      = ∑ g : Fin 1024, ∑ q : Fin 8, ∑ j : Fin 8, f g q j := by
  have e := Fintype.sum_equiv places (fun p => f (places p).1 (places p).2.1 (places p).2.2) (fun p => f p.1 p.2.1 p.2.2) (fun _ => rfl)
  simp only [Fintype.sum_prod_type] at e
  exact e

/-- A word of a step's plane, from the arguments: half `p` is an entry of a codebook. -/
theorem word_half (x : IVec S64x8x128 8) (cb : IVec S8x256x8 16) (b w : Fin 4) (R l : Fin 128) (p : Fin 2) :
    half (word x (table cb) b w R l) p.val
      = cb (ix3 (⟨4 * (R.val % 2) + b.val, by omega⟩ : Fin 8) (⟨(code x b R l).toNat, (code x b R l).isLt⟩ : Fin 256) (⟨2 * w.val + p.val, by omega⟩ : Fin 8)) := by
  unfold word entry
  rw [table_half]
  congr 1
  funext a
  match a with
  | ⟨0, _⟩ => exact Fin.ext (show 4 * (R.val % 8 % 2) + b.val = 4 * (R.val % 2) + b.val by omega)
  | ⟨1, _⟩ => exact Fin.ext (show 128 * ((code x b R l).toNat / 128) + (code x b R l).toNat % 128 = (code x b R l).toNat by omega)
  | ⟨2, _⟩ => rfl

variable (m : (ℓ : Loc nD τ sig) → Buf (Elt Ideal) ℓ)

/-- The code a step reads is the argument's. -/
theorem code_eq (c : Dev nD) (t : Fin cfg0.N) (k : Fin 256) (o : Fin 1280) (ho : o.val = 256 * (t.val / 16) + k.val) (b : Fin 4) (R : Fin 128) :
    code (if k.val / 128 = 0 then (iblk m c 1 t : Vec Ideal S64x8x128 .i8) else iblk m c 2 t) b R (⟨k.val % 128, by omega⟩ : Fin 128)
      = argCodes m c (ix3 (⟨64 * (t.val % 16) + R.val / 2, by omega⟩ : Fin 1024) (⟨4 * (R.val % 2) + b.val, by omega⟩ : Fin 8) o) := by
  unfold code
  by_cases h : k.val / 128 = 0
  · rw [if_pos h, iblk1_apply]
    congr 2
    exact Fin.ext (show 256 * (t.val / 16) + k.val % 128 = o.val by omega)
  · rw [if_neg h, iblk2_apply]
    congr 2
    exact Fin.ext (show 256 * (t.val / 16) + 128 + k.val % 128 = o.val by omega)

/-- A gain, from the arguments. -/
theorem gainAt_eq (c : Dev nD) (t : Fin cfg0.N) (r : Fin 8) (k : Fin 256) (o : Fin 1280) (ho : o.val = 256 * (t.val / 16) + k.val) :
    gainAt m c t.val r k = ∑ w : Fin 4, ∑ b : Fin 4, ∑ K : Fin 256,
      term (argX m c) (argCodes m c) (argBooks m c) r o (⟨64 * (t.val % 16) + K.val / 4, by omega⟩ : Fin 1024)
        (⟨4 * (K.val / 2 % 2) + b.val, by omega⟩ : Fin 8) (⟨2 * w.val + K.val % 2, by omega⟩ : Fin 8) := by
  rw [gainAt_of]
  unfold gain
  refine Finset.sum_congr rfl fun w _ => Finset.sum_congr rfl fun b _ => Finset.sum_congr rfl fun K _ => ?_
  unfold term halfVal
  rw [iblk0_apply, spread_apply, iblk3_eq]
  rw [word_half _ _ b w _ _ (⟨K.val % 2, by omega⟩ : Fin 2), code_eq m c t k o ho]
  have hx : (⟨8 * ((256 * (t.val % 16) + K.val) / 4) + 2 * w.val + (256 * (t.val % 16) + K.val) % 2, by omega⟩ : Fin 8192)
      = ⟨8 * (64 * (t.val % 16) + K.val / 4) + (2 * w.val + K.val % 2), by omega⟩ := Fin.ext (by
    show 8 * ((256 * (t.val % 16) + K.val) / 4) + 2 * w.val + (256 * (t.val % 16) + K.val) % 2
      = 8 * (64 * (t.val % 16) + K.val / 4) + (2 * w.val + K.val % 2)
    omega)
  have hg : (⟨64 * (t.val % 16) + K.val / 2 / 2, by omega⟩ : Fin 1024) = ⟨64 * (t.val % 16) + K.val / 4, by omega⟩ := Fin.ext (by
    show 64 * (t.val % 16) + K.val / 2 / 2 = 64 * (t.val % 16) + K.val / 4
    omega)
  rw [hx]
  simp only [hg]

/-- The sixteen gains of a block's column, from the arguments. -/
theorem gains_eq (c : Dev nD) (r : Fin 8) (o : Fin 1280) :
    ∑ s ∈ Finset.range 16, gainAt m c (16 * (o.val / 256) + s) r (⟨o.val % 256, by omega⟩ : Fin 256)
      = ∑ g : Fin 1024, ∑ q : Fin 8, ∑ j : Fin 8, term (argX m c) (argCodes m c) (argBooks m c) r o g q j := by
  rw [Finset.sum_range, ← sum_places]
  refine Finset.sum_congr rfl fun s _ => ?_
  have hlt : 16 * (o.val / 256) + s.val < cfg0.N := lt_of_lt_of_eq (by omega) (show cfg0.N = 80 from N_0).symm
  have e := gainAt_eq m c ⟨16 * (o.val / 256) + s.val, hlt⟩ r (⟨o.val % 256, by omega⟩ : Fin 256) o (by
    show o.val = 256 * ((16 * (o.val / 256) + s.val) / 16) + o.val % 256
    omega)
  dsimp only at e
  rw [e]
  have hs : (16 * (o.val / 256) + s.val) % 16 = s.val := by omega
  simp only [hs]

/-- The result array, from the arguments. -/
theorem result_apply (c : Dev nD) (r : Fin 8) (o : Fin 1280) :
    Value.G5 m c (ix2 r o) = (∑ g : Fin 1024, ∑ q : Fin 8, ∑ j : Fin 8, term (argX m c) (argCodes m c) (argBooks m c) r o g q j)
      * argScales m c (ix1 o) := by
  rw [G5_apply, gains_eq]

end Cert.KernelIdeal.Codes
-- ==== Proof.Reference.lean ====
/-
  What the reference computes, read at an index: `x` at row r, group g, place j, times the entry at place j of codebook q's
  vector at the code for (g, q, o), summed over g, q and j, times the scale of column o (`reference_apply`).
-/
module

public import proofs.«01_k».proof.Proof.Equation
public import proofs.«01_k».proof.Proof.Gen.ReferenceIdeal.Run

@[expose] public section

set_option maxRecDepth 16384

namespace Cert.ReferenceIdeal.Codes

open Cert.ReferenceIdeal Cert.ReferenceIdeal.Gen Idealize.ShloMosaic Idealize.ShloMosaic.TcCoe Idealize.ShloMosaic.ValueIdx
open Cert.KernelIdeal.Codes (xAt term)
open scoped BigOperators

/-- The contraction's dimension numbers. -/
abbrev dot := dot_S8x1024x8x8_S1024x8x1280x8_S8x1280_132_031_0_2_n_n
/-- The gather's dimension numbers. -/
abbrev take := gather_S2048x8_S1024x8x1280x1_S1024x8x1280x8_3_0_n_n_0_3_18

/-- The contraction's index is a group, a codebook and a place (its own order is group, place, codebook). -/
def dotIdx : Fin 1024 × Fin 8 × Fin 8 ≃ dot.contr.Idx where
  toFun p := fun a => match a with | ⟨0, _⟩ => p.1 | ⟨1, _⟩ => p.2.2 | ⟨2, _⟩ => p.2.1
  invFun q := (q ⟨0, by decide⟩, q ⟨2, by decide⟩, q ⟨1, by decide⟩)
  left_inv _ := rfl
  right_inv q := by
    funext a
    match a with
    | ⟨0, _⟩ => rfl
    | ⟨1, _⟩ => rfl
    | ⟨2, _⟩ => rfl

/-- The contraction at row `r`, column `o`. -/
theorem dot_apply (L : FVec Ideal S8x1024x8x8 .bf16) (R : FVec Ideal S1024x8x1280x8 .bf16) (r : Fin 8) (o : Fin 1280) :
    Host.dotGeneral dot none L R (ix2 r o)
      = ∑ g : Fin 1024, ∑ q : Fin 8, ∑ j : Fin 8, L (ix4 r g q j) * R (ix4 g q o j) := by
  simp only [Host.dotGeneral]
  rw [Ideal.dotGeneral_apply, ← Equiv.sum_comp dotIdx]
  simp only [Fintype.sum_prod_type]
  refine Finset.sum_congr rfl fun g _ => Finset.sum_congr rfl fun q _ => Finset.sum_congr rfl fun j _ => ?_
  have el : dot.lhsIdx (ix2 r o) (dotIdx (g, q, j)) = ix4 r g q j := by
    funext a; apply Fin.ext
    match a with
    | ⟨0, _⟩ => rfl
    | ⟨1, _⟩ => rfl
    | ⟨2, _⟩ => rfl
    | ⟨3, _⟩ => rfl
  have er : dot.rhsIdx (ix2 r o) (dotIdx (g, q, j)) = ix4 g q o j := by
    funext a; apply Fin.ext
    match a with
    | ⟨0, _⟩ => rfl
    | ⟨1, _⟩ => rfl
    | ⟨2, _⟩ => rfl
    | ⟨3, _⟩ => rfl
  rw [el, er]

/-- The gather at (g, q, o, j): the table's row there, place `j`. -/
theorem take_apply {α : Type} (x : S2048x8.Idx → α) (idx : IVec S1024x8x1280x1 32) (g : Fin 1024) (q : Fin 8) (o : Fin 1280) (j : Fin 8) :
    Host.gather take x idx (ix4 g q o j) = x (ix2 (⟨min (idx (ix4 g q o 0)).toInt.toNat 2047, by omega⟩ : Fin 2048) j) := by
  unfold Host.gather
  congr 1
  funext a
  refine Fin.ext ?_
  match a with
  | ⟨0, _⟩ =>
    show take.start (ix4 g q o j) idx 0 + take.batchCoord (ix4 g q o j) 0 + take.offCoord (ix4 g q o j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ take.startIndexMap from List.mem_singleton.mpr rfl)]
    have hsi : take.siIdx (ix4 g q o j) ⟨List.idxOf (0 : Fin 2) take.startIndexMap,
        List.idxOf_lt_length_iff.2 (List.mem_singleton.mpr rfl)⟩ = ix4 g q o 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show take.start (ix4 g q o j) idx 1 + take.batchCoord (ix4 g q o j) 1 + take.offCoord (ix4 g q o j) 1 = j.val
    rw [GatherDims.batchCoord_eq_zero _ _ _ List.not_mem_nil]
    unfold GatherDims.start
    rw [dif_neg (show ¬ (1 : Fin 2) ∈ take.startIndexMap by decide)]
    simp only [Nat.zero_add]
    rfl

/-- The reference's result, from its arguments. -/
noncomputable def value (x : FVec Ideal S5x1x8192 .bf16) (codes : IVec S1024x8x1280 8) (cb : IVec S8x256x8 16) (sc : FVec Ideal S1280 .f32) :
    FVec Ideal S8x1280 .bf16 :=
  truncf .bf16 (mulf (Host.dotGeneral dot_S8x1024x8x8_S1024x8x1280x8_S8x1280_132_031_0_2_n_n none (broadcastInDim S8x1024x8x8 ![0, 1, 2, 3] bcast_S8x1024x1x8_S8x1024x8x8_0_1_2_3 (broadcastInDim S8x1024x1x8 ![0, 1, 3] bcast_S8x1024x8_S8x1024x1x8_0_1_3 (pad S8x1024x8 ![0, 0, 0] ![3, 0, 0] ![0, 0, 0] (shapeCast _ x shapeCasts_S5x1x8192_S5x1024x8) (sitofp .bf16 (constantI S_ 32 0#32)) pads_S5x1024x8_S8x1024x8_030_000_000 h_S_))) (Host.gather gather_S2048x8_S1024x8x1280x1_S1024x8x1280x8_3_0_n_n_0_3_18 (shapeCast _ (bitcastToFloat (F := Ideal) .bf16 cb) shapeCasts_S8x256x8_S2048x8) (broadcastInDim S1024x8x1280x1 ![0, 1, 2] bcast_S1024x8x1280_S1024x8x1280x1_0_1_2 (addi (broadcastInDim S1024x8x1280 ![0, 1, 2] bcast_S1x8x1_S1024x8x1280_0_1_2 (muli (broadcastInDim S1x8x1 ![1] bcast_S8_S1x8x1_1 (iotaInDim S8 32 0)) (broadcastInDim S1x8x1 ![] bcast_S_S1x8x1 (constantI S_ 32 256#32)))) (extui 32 codes natLt_8_32))))) (broadcastInDim S8x1280 ![0, 1] bcast_S1x1280_S8x1280_0_1 (broadcastInDim S1x1280 ![1] bcast_S1280_S1x1280_1 sc))) bitsLt_bf16_f32

/-- The padded activations, spread over the codebooks. -/
theorem acts_apply (x : FVec Ideal S5x1x8192 .bf16) (r : Fin 8) (g : Fin 1024) (q j : Fin 8) :
    broadcastInDim S8x1024x8x8 ![0, 1, 2, 3] bcast_S8x1024x1x8_S8x1024x8x8_0_1_2_3 (broadcastInDim S8x1024x1x8 ![0, 1, 3] bcast_S8x1024x8_S8x1024x1x8_0_1_3 (pad S8x1024x8 ![0, 0, 0] ![3, 0, 0] ![0, 0, 0] (shapeCast _ x shapeCasts_S5x1x8192_S5x1024x8) (sitofp .bf16 (constantI S_ 32 0#32)) pads_S5x1024x8_S8x1024x8_030_000_000 h_S_)) (ix4 r g q j)
      = xAt x r (⟨8 * g.val + j.val, by omega⟩ : Fin 8192) := by
  rw [broadcastInDim_apply _ _ _ _ (ix4 r g (0 : Fin 1) j) (fun a => by
    match a with | ⟨0, _⟩ => rfl | ⟨1, _⟩ => rfl | ⟨2, _⟩ => rfl | ⟨3, _⟩ => rfl)]
  rw [broadcastInDim_apply _ _ _ _ (ix3 r g j) (fun a => by
    match a with | ⟨0, _⟩ => rfl | ⟨1, _⟩ => rfl | ⟨2, _⟩ => rfl)]
  unfold xAt
  by_cases h : r.val < 5
  · rw [dif_pos h]
    rw [pad_apply_of_inside _ _ _ _ _ _ _ (ix3 r g j) (ix3 (⟨r.val, h⟩ : Fin 5) g j) (fun a => by
      match a with
      | ⟨0, _⟩ => show r.val = 0 + r.val * 1; omega
      | ⟨1, _⟩ => show g.val = 0 + g.val * 1; omega
      | ⟨2, _⟩ => show j.val = 0 + j.val * 1; omega)]
    rw [shapeCast_apply]
    rw [Shape.rowMajor_val_three, Shape.rowMajor_val_three]
    show (r.val * 1 + 0) * 8192 + (8 * g.val + j.val) = (r.val * 1024 + g.val) * 8 + j.val
    omega
  · rw [dif_neg h]
    rw [pad_apply_of_not_inside _ _ _ _ _ _ _ (ix3 r g j) (0 : Fin 3) (by
      show ¬(0 ≤ r.val ∧ (r.val - 0) % 1 = 0 ∧ (r.val - 0) / 1 < 5)
      omega)]
    show (((0#32 : BitVec 32).toInt : ℝ) : EReal) = 0
    simp

/-- The row of the table of all codebooks the reference reads: 256 q + the code, which no bound cuts. -/
theorem row_eq (q : Fin 8) (v : BitVec 8) :
    min (BitVec.ofNat 32 q.val * 256#32 + v.zeroExtend 32).toInt.toNat 2047 = 256 * q.val + v.toNat := by
  have hv := v.isLt
  have e : (BitVec.ofNat 32 q.val * 256#32 + v.zeroExtend 32).toNat = 256 * q.val + v.toNat := by
    simp only [BitVec.toNat_add, BitVec.toNat_mul, BitVec.toNat_ofNat, BitVec.toNat_setWidth, BitVec.truncate_eq_setWidth]
    omega
  rw [BitVec.toInt_eq_toNat_of_lt (by rw [e]; omega), e]
  show min (256 * q.val + v.toNat) 2047 = _
  omega

/-- The row index of a code. -/
theorem index_apply (codes : IVec S1024x8x1280 8) (g : Fin 1024) (q : Fin 8) (o : Fin 1280) :
    broadcastInDim S1024x8x1280x1 ![0, 1, 2] bcast_S1024x8x1280_S1024x8x1280x1_0_1_2 (addi (broadcastInDim S1024x8x1280 ![0, 1, 2] bcast_S1x8x1_S1024x8x1280_0_1_2 (muli (broadcastInDim S1x8x1 ![1] bcast_S8_S1x8x1_1 (iotaInDim S8 32 0)) (broadcastInDim S1x8x1 ![] bcast_S_S1x8x1 (constantI S_ 32 256#32)))) (extui 32 codes natLt_8_32)) (ix4 g q o 0)
      = BitVec.ofNat 32 q.val * 256#32 + (codes (ix3 g q o)).zeroExtend 32 := by
  rw [broadcastInDim_apply _ _ _ _ (ix3 g q o) (fun a => by
    match a with | ⟨0, _⟩ => rfl | ⟨1, _⟩ => rfl | ⟨2, _⟩ => rfl)]
  show broadcastInDim S1024x8x1280 ![0, 1, 2] bcast_S1x8x1_S1024x8x1280_0_1_2 (muli (broadcastInDim S1x8x1 ![1] bcast_S8_S1x8x1_1 (iotaInDim S8 32 0)) (broadcastInDim S1x8x1 ![] bcast_S_S1x8x1 (constantI S_ 32 256#32))) (ix3 g q o) + (codes (ix3 g q o)).zeroExtend 32 = _
  rw [broadcastInDim_apply _ _ _ _ (ix3 (0 : Fin 1) q (0 : Fin 1)) (fun a => by
    match a with | ⟨0, _⟩ => rfl | ⟨1, _⟩ => rfl | ⟨2, _⟩ => rfl)]
  show broadcastInDim S1x8x1 ![1] bcast_S8_S1x8x1_1 (iotaInDim S8 32 0) (ix3 (0 : Fin 1) q (0 : Fin 1)) * 256#32 + _ = _
  rw [broadcastInDim_apply _ _ _ _ (ix1 q) (fun a => by match a with | ⟨0, _⟩ => rfl)]
  rfl

/-- The codebook entries the reference gathers. -/
theorem entries_apply (codes : IVec S1024x8x1280 8) (cb : IVec S8x256x8 16) (g : Fin 1024) (q : Fin 8) (o : Fin 1280) (j : Fin 8) :
    Host.gather take (shapeCast S2048x8 (bitcastToFloat (F := Ideal) .bf16 cb) shapeCasts_S8x256x8_S2048x8) (broadcastInDim S1024x8x1280x1 ![0, 1, 2] bcast_S1024x8x1280_S1024x8x1280x1_0_1_2 (addi (broadcastInDim S1024x8x1280 ![0, 1, 2] bcast_S1x8x1_S1024x8x1280_0_1_2 (muli (broadcastInDim S1x8x1 ![1] bcast_S8_S1x8x1_1 (iotaInDim S8 32 0)) (broadcastInDim S1x8x1 ![] bcast_S_S1x8x1 (constantI S_ 32 256#32)))) (extui 32 codes natLt_8_32))) (ix4 g q o j)
      = FloatOps.ofBits (F := Ideal) .bf16 (cb (ix3 q (⟨(codes (ix3 g q o)).toNat, (codes (ix3 g q o)).isLt⟩ : Fin 256) j)) := by
  have hrow := row_eq q (codes (ix3 g q o))
  rw [take_apply]
  rw [shapeCast_apply _ _ _ (ix3 q (⟨(codes (ix3 g q o)).toNat, (codes (ix3 g q o)).isLt⟩ : Fin 256) j)]
  · rfl
  rw [Shape.rowMajor_val_three, Shape.rowMajor_val_two]
  show (q.val * 256 + (codes (ix3 g q o)).toNat) * 8 + j.val = min (BitVec.toInt _).toNat 2047 * 8 + j.val
  rw [index_apply, hrow]
  omega

/-- The reference's result at row `r`, column `o`. -/
theorem value_apply (x : FVec Ideal S5x1x8192 .bf16) (codes : IVec S1024x8x1280 8) (cb : IVec S8x256x8 16) (sc : FVec Ideal S1280 .f32)
    (r : Fin 8) (o : Fin 1280) :
    value x codes cb sc (ix2 r o) = (∑ g : Fin 1024, ∑ q : Fin 8, ∑ j : Fin 8, term x codes cb r o g q j) * sc (ix1 o) := by
  unfold value
  show Host.dotGeneral (F := Ideal) dot none _ _ (ix2 r o) * _ = _
  rw [dot_apply]
  congr 1
  · refine Finset.sum_congr rfl fun g _ => Finset.sum_congr rfl fun q _ => Finset.sum_congr rfl fun j _ => ?_
    unfold term
    rw [acts_apply, entries_apply]
  · rw [broadcastInDim_apply _ _ _ _ (ix2 (0 : Fin 1) o) (fun a => by match a with | ⟨0, _⟩ => rfl | ⟨1, _⟩ => rfl)]
    rw [broadcastInDim_apply _ _ _ _ (ix1 o) (fun a => by match a with | ⟨0, _⟩ => rfl)]

end Cert.ReferenceIdeal.Codes
-- ==== Proof.Result.lean ====
/-
  The claims about the idealized kernel and the reference: each ends with its arguments as they were and its counters at zero,
  and from memories that agree on the arguments both end with the same results, entry by entry.
-/
module

public import proofs.«01_k».proof.Defs
public import proofs.«01_k».proof.Proof.Reference
public import Idealize.ShloMosaic.Adequacy
public import Idealize.ShloMosaic.Init

@[expose] public section

namespace Cert.Proof

open Idealize.ShloMosaic Idealize.ShloMosaic.ValueIdx Idealize.SL.Sem

/-- The reference's frame. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's result array is the reference's value of the same arguments. -/
theorem result_eq (m : (ℓ : Loc Cert.KernelIdeal.nD Cert.KernelIdeal.τ Cert.KernelIdeal.sig) → Buf (Elt Ideal) ℓ) (c : Dev Cert.KernelIdeal.nD) :
    Cert.ReferenceIdeal.Codes.value (Cert.KernelIdeal.Codes.argX m c) (Cert.KernelIdeal.Codes.argCodes m c)
        (Cert.KernelIdeal.Codes.argBooks m c) (Cert.KernelIdeal.Codes.argScales m c)
      = Cert.KernelIdeal.Value.G5 m c := by
  funext i
  rw [show i = ix2 (i 0) (i 1) from eq_ix2 i]
  exact (Cert.ReferenceIdeal.Codes.value_apply _ _ _ _ (i 0) (i 1)).trans (Cert.KernelIdeal.Codes.result_apply m c (i 0) (i 1)).symm

/-- The value claim. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Value.G5 m c, Cert.KernelIdeal.Value.run m ρ, ?_⟩
  refine (θ_run Cert.ReferenceIdeal.defs _ _).mono (fun _ h c => ⟨((h c).1).trans ?_, (h c).2⟩)
    (Cert.ReferenceIdeal.Value.run (F := Ideal) m' ρ')
  obtain ⟨e0, e1, e2, e3⟩ := hagree c
  rw [e0, e1, e2, e3]
  exact result_eq m c

end Cert.Proof
-- ==== Proof.lean ====
/-
  `Cert.Claim`: the frames of the kernel, of its idealization and of the reference, the idealization's ledger (no rewrite), and
  the value claim. The frames of the two kernels are generated; the reference's and the value claim are in Proof/Result.lean.
-/
module

public import proofs.«01_k».proof.Defs
public import proofs.«01_k».proof.Proof.Gen.Kernel.Frame
public import proofs.«01_k».proof.Proof.Gen.KernelIdeal.Frame
public import proofs.«01_k».proof.Proof.Result

@[expose] public section

namespace Cert.Proof

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof
